-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S4096 : Shape := ⟨1, ![4096]⟩
abbrev S4096x128 : Shape := ⟨2, ![4096, 128]⟩
abbrev S_ : Shape := ⟨0, ![]⟩
abbrev S1000000x128 : Shape := ⟨2, ![1000000, 128]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S4096x128 .f32) (main_arg2 : IVec S4096 32) (main_arg3 : FVec F S_ .f32) (main_arg4 : FVec F S_ .f32) (main_arg5 : FVec F S1000000x128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 1000000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S4096x128 : Shape := ⟨2, ![4096, 128]⟩
abbrev S_ : Shape := ⟨0, ![]⟩
abbrev S1000000x128 : Shape := ⟨2, ![1000000, 128]⟩
abbrev S256 : Shape := ⟨1, ![256]⟩
abbrev S4x64x128 : Shape := ⟨3, ![4, 64, 128]⟩
abbrev S1x64x128 : Shape := ⟨3, ![1, 64, 128]⟩
abbrev S64x128 : Shape := ⟨2, ![64, 128]⟩
abbrev S64 : Shape := ⟨1, ![64]⟩
abbrev S2x1x2048 : Shape := ⟨3, ![2, 1, 2048]⟩
abbrev S2048x128 : Shape := ⟨2, ![2048, 128]⟩
abbrev S1x1x2048 : Shape := ⟨3, ![1, 1, 2048]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x2048 : Shape := ⟨2, ![1, 2048]⟩

abbrev nBuf : Table → Nat
  | .hbm => 12
  | .local .tc .vmem => 12
  | .local .tc .smem => 3
  | .local .scVector .vmem => 2
  | _ => 0

abbrev bufTy : (tb : Table) → Fin (nBuf tb) → BufTy
  | .hbm, ⟨0, _⟩ => ⟨S4096, .i32⟩
  | .hbm, ⟨1, _⟩ => ⟨S4096x128, .f32⟩
  | .hbm, ⟨2, _⟩ => ⟨S4096, .i32⟩
  | .hbm, ⟨3, _⟩ => ⟨S_, .f32⟩
  | .hbm, ⟨4, _⟩ => ⟨S_, .f32⟩
  | .hbm, ⟨5, _⟩ => ⟨S1000000x128, .f32⟩
  | .hbm, ⟨6, _⟩ => ⟨S4096x128, .f32⟩
  | .hbm, ⟨7, _⟩ => ⟨S4096x128, .bf16⟩
  | .hbm, ⟨8, _⟩ => ⟨S2x1x2048, .f32⟩
  | .hbm, ⟨9, _⟩ => ⟨S1, .f32⟩
  | .hbm, ⟨10, _⟩ => ⟨S1x1, .f32⟩
  | .hbm, ⟨11, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .bf16⟩
  | .local .tc .vmem, ⟨3, _⟩ => ⟨S2048x128, .bf16⟩
  | .local .tc .vmem, ⟨4, _⟩ => ⟨S1x1x2048, .f32⟩
  | .local .tc .vmem, ⟨5, _⟩ => ⟨S1x1x2048, .f32⟩
  | .local .tc .vmem, ⟨6, _⟩ => ⟨S2048x128, .f32⟩
  | .local .tc .vmem, ⟨7, _⟩ => ⟨S2048x128, .f32⟩
  | .local .tc .vmem, ⟨8, _⟩ => ⟨S2048x128, .bf16⟩
  | .local .tc .vmem, ⟨9, _⟩ => ⟨S2048x128, .bf16⟩
  | .local .tc .vmem, ⟨10, _⟩ => ⟨S1x1x2048, .f32⟩
  | .local .tc .vmem, ⟨11, _⟩ => ⟨S1x1x2048, .f32⟩
  | .local .tc .smem, ⟨0, _⟩ => ⟨S1, .f32⟩
  | .local .tc .smem, ⟨1, _⟩ => ⟨S1x1, .f32⟩
  | .local .tc .smem, ⟨2, _⟩ => ⟨S1x1, .f32⟩
  | .local .scVector .vmem, ⟨0, _⟩ => ⟨S256, .i32⟩
  | .local .scVector .vmem, ⟨1, _⟩ => ⟨S4x64x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg5_scv : Ref sig .scVector := ⟨.hbm, 5, rfl⟩
abbrev main_arg0_scv : Ref sig .scVector := ⟨.hbm, 0, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg0_0 : Ref sig .tc := ⟨.smem, 0, rfl⟩
abbrev cc2_stg4_0 : Ref sig .tc := ⟨.smem, 1, rfl⟩
abbrev cc2_scratch0 : Ref sig .tc := ⟨.smem, 2, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) (c0_i32_24 : BitVec 32) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v23 : BitVec 32 := Scalar.addi v2 c0_i32_24
  let c0_i32_28 : BitVec 32 := 0#32
  ![v23.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def k2_cond2 (i : grid2.Coords) : BitVec 1 :=
  let arg0 : BitVec 32 := BitVec.ofNat 32 (i 0).val
  let c1_i32 : BitVec 32 := 1#32
  let v27 : BitVec 1 := Scalar.cmpi .eq arg0 c1_i32
  let v28 : BitVec 32 := Scalar.extui v27
  let c0_i32_15 : BitVec 32 := 0#32
  let v29 : BitVec 1 := Scalar.cmpi .ne v28 c0_i32_15
  v29

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S4096x128 : Shape := ⟨2, ![4096, 128]⟩
abbrev S_ : Shape := ⟨0, ![]⟩
abbrev S1000000x128 : Shape := ⟨2, ![1000000, 128]⟩
abbrev S4096x1 : Shape := ⟨2, ![4096, 1]⟩
abbrev S1 : Shape := ⟨1, ![1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x128, .f32⟩
  | .hbm, ⟨2, _⟩ => ⟨S4096, .i32⟩
  | .hbm, ⟨3, _⟩ => ⟨S_, .f32⟩
  | .hbm, ⟨4, _⟩ => ⟨S_, .f32⟩
  | .hbm, ⟨5, _⟩ => ⟨S1000000x128, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S1x1, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i1⟩
  | .hbm, ⟨45, _⟩ => ⟨S4096, .i1⟩
  | .hbm, ⟨46, _⟩ => ⟨S4096x128, .f32⟩
  | .hbm, ⟨47, _⟩ => ⟨S4096x128, .i1⟩
  | .hbm, ⟨48, _⟩ => ⟨S_, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v12 : Ref sig .tc := ⟨.hbm, 50, rfl⟩
abbrev main_cst_4 : Ref sig .tc := ⟨.hbm, 51, rfl⟩
abbrev main_v13 : Ref sig .tc := ⟨.hbm, 52, rfl⟩
abbrev main_v14 : Ref sig .tc := ⟨.hbm, 53, rfl⟩
abbrev main_cst_5 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_6 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_7 : Ref sig .tc := ⟨.hbm, 64, rfl⟩
abbrev main_v23 : Ref sig .tc := ⟨.hbm, 65, rfl⟩
abbrev main_cst_8 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_9 : Ref sig .tc := ⟨.hbm, 70, rfl⟩
abbrev main_v27 : Ref sig .tc := ⟨.hbm, 71, rfl⟩
abbrev main_cst_10 : Ref sig .tc := ⟨.hbm, 72, rfl⟩
abbrev main_v28 : Ref sig .tc := ⟨.hbm, 73, rfl⟩
abbrev main_cst_11 : Ref sig .tc := ⟨.hbm, 74, rfl⟩
abbrev main_v29 : Ref sig .tc := ⟨.hbm, 75, rfl⟩
abbrev main_v30 : Ref sig .tc := ⟨.hbm, 76, rfl⟩

abbrev nD : Nat := 1
abbrev τ : Topo := Topo.v7x

variable {F : FTy → Type} [FloatOps F]
-- ==== Proof.KITile.lean ====
/-
  The SparseCore gather of the program, one task: sixteen tasks on SparseCore 0's tiles, each fetching its 256 row
  numbers, gathering those rows of the table in four streams of 64 rows into its row scratch, and copying each 64 rows
  out to its window of the result as soon as they have landed. The windows of every task, the value a window ends
  with (the table's rows at the row numbers), and the task's triple, which carries that value.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the two staged calls, beside those of the tiles. -/
abbrev ΛP : Labels := Pipeline.Sig Λ₀ (Fin 2) fun p => (pcfgs (F := F) p).Adm
/-- The launch configuration: the one gather on the SparseCore. -/
abbrev K : SparseCore.Cfg τ sig (ΛP (F := F)) 1 := sc (F := F)
/-- The gather runs on sixteen tiles. -/
theorem nSub_zero : (K (F := F)).nSub 0 = 16 := rfl
/-- The definitions of the staged calls and of the tiles. -/
abbrev D [FloatOps F] : Defs nD τ sig (Elt F) (ΛP (F := F)) := Pipeline.defs pcfgs defs₀
/-- No loop needs a variant of its own. -/
abbrev 𝒱₀ : Variants := Variants.none
/-- The same, lifted to the staged calls' labels. -/
abbrev 𝒱 : Variants := 𝒱₀.lift
/-- The tile's place in the variants. -/
abbrev v₀ : 𝒱.V := Sum.inl none

/-- The launch's side conditions on its semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

/-- Ghost state of the handshakes between the TensorCore and the SparseCore. -/
abbrev UH : Type := URounds (GSem nD τ sig) ℕ
/-- Ghost state of the staged calls' rounds. -/
abbrev UP : Type := URounds (GSem nD τ sig) Unit
/-- All the ghost state: handshakes, rounds, and the counters of the tiles' copies. -/
abbrev UU : Type := UH × (UP × Counters)

local notation "𝕄" => MT nD τ sig (HIx 1) (Elt F) ℕ UU ℕ

/-- Where the handshakes' part sits. -/
abbrev EH : Emb UH (MT nD τ sig (HIx 1) (Elt F) ℕ UU ℕ) := embL

/-! ## The launch memory and the buffers -/

variable (m : (ℓ : Loc nD τ sig) → Buf (Elt F) ℓ)

/-- The indices, the table and the gathered rows in device memory. -/
abbrev iLoc (d : Dev nD) : Loc nD τ sig := (SparseCore.T d).loc main_arg0
abbrev xLoc (d : Dev nD) : Loc nD τ sig := (SparseCore.T d).loc main_arg5
abbrev oLoc (d : Dev nD) : Loc nD τ sig := (SparseCore.T d).loc main_v0

/-- The whole arrays as the tile refers to them: the indices, the table, the gathered rows, its index list, its row buffer. -/
abbrev iV : Memref sig .scVector .hbm S4096 .i32 := Memref.whole main_arg0_scv
abbrev xV : Memref sig .scVector .hbm S1000000x128 .f32 := Memref.whole main_arg5_scv
abbrev oV : Memref sig .scVector .hbm S4096x128 .f32 := Memref.whole main_v0_scv
abbrev sV : Memref sig .scVector .vmem S256 .i32 := Memref.whole cc0_scratch0
abbrev rV : Memref sig .scVector .vmem S4x64x128 .f32 := Memref.whole cc0_scratch1

/-! ## The windows -/

/-- The row numbers' window of 256 that starts at `o`, of the result's 64 rows that starts at `o`, of the fetched row
    numbers' 64 and of the row scratch's 64 rows, each as a rectangle at an offset. -/
abbrev iRect (o : Fin 1 → Nat) (h : ∀ a, o a + S256.size a ≤ S4096.size a) : Rect S4096 := Rect.unit (s := S4096) o S256.size h
/-- The rectangles that the copies address: 64 gathered rows, 64 words of the tile's index list, one chunk of its row buffer. -/
abbrev oRect (o : Fin 2 → Nat) (h : ∀ a, o a + S64x128.size a ≤ S4096x128.size a) : Rect S4096x128 := Rect.unit (s := S4096x128) o S64x128.size h
abbrev sRect (o : Fin 1 → Nat) (h : ∀ a, o a + S64.size a ≤ S256.size a) : Rect S256 := Rect.unit (s := S256) o S64.size h
abbrev rRect (o : Fin 3 → Nat) (h : ∀ a, o a + S1x64x128.size a ≤ S4x64x128.size a) : Rect S4x64x128 := Rect.unit (s := S4x64x128) o S1x64x128.size h

/-- The memory references that the tile's copies name: its 256 indices, 64 output rows, 64 listed indices, one chunk of rows, the table. -/
abbrev iW (o : Fin 1 → Nat) (h : ∀ a, o a + S256.size a ≤ S4096.size a) : Memref sig .scVector .hbm S256 .i32 :=
  (iV).slice (iRect o h) (fun _ => rfl)
abbrev oW (o : Fin 2 → Nat) (h : ∀ a, o a + S64x128.size a ≤ S4096x128.size a) : Memref sig .scVector .hbm S64x128 .f32 :=
  (oV).slice (oRect o h) (fun _ => rfl)
abbrev sW (o : Fin 1 → Nat) (h : ∀ a, o a + S64.size a ≤ S256.size a) : Memref sig .scVector .vmem S64 .i32 :=
  (sV).slice (sRect o h) (fun _ => rfl)
abbrev rW (o : Fin 3 → Nat) (h : ∀ a, o a + S1x64x128.size a ≤ S4x64x128.size a) : Memref sig .scVector .vmem S64x128 .f32 :=
  ((rV).slice (rRect o h) (fun _ => rfl)).squeeze S64x128 squeezes_S1x64x128_S64x128
abbrev xW : Memref sig .scVector .hbm S1000000x128 .f32 :=
  (xV).slice (Rect.unit (s := S1000000x128) ![0, 0] S1000000x128.size inb_S1000000x128_S1000000x128_0_0) (fun _ => rfl)

/-- Each of these rectangles lies within its array. -/
theorem iInb (j : Fin 16) : ∀ a, (![256 * j.val] : Fin 1 → Nat) a + S256.size a ≤ S4096.size a := by revert j; decide
theorem oInb (j : Fin 16) (c : Fin 4) : ∀ a, (![256 * j.val + 64 * c.val, 0] : Fin 2 → Nat) a + S64x128.size a ≤ S4096x128.size a := by
  revert j c; decide
theorem sInb (c : Fin 4) : ∀ a, (![64 * c.val] : Fin 1 → Nat) a + S64.size a ≤ S256.size a := by revert c; decide
theorem rInb (c : Fin 4) : ∀ a, (![c.val, 0, 0] : Fin 3 → Nat) a + S1x64x128.size a ≤ S4x64x128.size a := by revert c; decide

/-- Task `j`'s row numbers, its window `c` of the result, window `c` of a fetched list and of a row scratch, as sets. -/
abbrev iSet (j : Fin 16) : Finset S4096.Idx := (iRect ![256 * j.val] (iInb j)).set
/-- Tile `j`'s rows of chunk `c`, the listed words of chunk `c`, and its part of the row buffer, as sets of indices. -/
abbrev oSet (j : Fin 16) (c : Fin 4) : Finset S4096x128.Idx := (oRect ![256 * j.val + 64 * c.val, 0] (oInb j c)).set
abbrev sSet (c : Fin 4) : Finset S256.Idx := (sRect ![64 * c.val] (sInb c)).set
abbrev rSet (c : Fin 4) : Finset S4x64x128.Idx := (rRect ![c.val, 0, 0] (rInb c)).set

/-- A reference's set of elements is its rectangle's. -/
theorem set_iW (o h) : (iW o h).view.set = (iRect o h).set := View.set_slice_whole _ _
theorem set_oW (o h) : (oW o h).view.set = (oRect o h).set := View.set_slice_whole _ _
theorem set_sW (o h) : (sW o h).view.set = (sRect o h).set := View.set_slice_whole _ _
theorem set_rW (o h) : (rW o h).view.set = (rRect o h).set := by
  show (((rV).view.slice (rRect o h)).reshape S64x128 squeezes_S1x64x128_S64x128.numel_eq).set = _
  rw [View.set_reshape]; exact View.set_slice_whole _ _
/-- The table's reference takes in the whole table. -/
theorem set_xW : (xW).view.set = Finset.univ := by
  refine (View.set_slice_whole _ _).trans (Finset.eq_univ_of_forall fun i => Rect.mem_set_unit.mpr fun a => ?_)
  match a with
  | ⟨0, _⟩ => exact ⟨Nat.zero_le _, lt_of_lt_of_eq (i 0).isLt (Nat.zero_add _).symm⟩
  | ⟨1, _⟩ => exact ⟨Nat.zero_le _, lt_of_lt_of_eq (i 1).isLt (Nat.zero_add _).symm⟩

/-! ### The windows are disjoint and cover their arrays -/

/-- Membership in each of these sets, by coordinates. -/
theorem mem_iSet (j : Fin 16) (i : S4096.Idx) : i ∈ iSet j ↔ 256 * j.val ≤ (i 0).val ∧ (i 0).val < 256 * j.val + 256 := by
  refine Rect.mem_set_unit.trans ⟨fun h => h 0, fun h a => ?_⟩
  match a with | ⟨0, _⟩ => exact h
theorem mem_oSet (j : Fin 16) (c : Fin 4) (i : S4096x128.Idx) :
    i ∈ oSet j c ↔ 256 * j.val + 64 * c.val ≤ (i 0).val ∧ (i 0).val < 256 * j.val + 64 * c.val + 64 := by
  refine Rect.mem_set_unit.trans ⟨fun h => h 0, fun h a => ?_⟩
  match a with
  | ⟨0, _⟩ => exact h
  | ⟨1, _⟩ => exact ⟨Nat.zero_le _, by have := (i 1).isLt; simpa using this⟩
theorem mem_sSet (c : Fin 4) (i : S256.Idx) : i ∈ sSet c ↔ 64 * c.val ≤ (i 0).val ∧ (i 0).val < 64 * c.val + 64 := by
  refine Rect.mem_set_unit.trans ⟨fun h => h 0, fun h a => ?_⟩
  match a with | ⟨0, _⟩ => exact h
theorem mem_rSet (c : Fin 4) (i : S4x64x128.Idx) : i ∈ rSet c ↔ (i 0).val = c.val := by
  refine Rect.mem_set_unit.trans ⟨fun h => ?_, fun h a => ?_⟩
  · have := h 0; simp at this; omega
  · match a with
    | ⟨0, _⟩ => simp; omega
    | ⟨1, _⟩ => exact ⟨Nat.zero_le _, by have := (i 1).isLt; simpa using this⟩
    | ⟨2, _⟩ => exact ⟨Nat.zero_le _, by have := (i 2).isLt; simpa using this⟩

/-- The tiles' index lists are apart. -/
theorem iSet_disjoint : ∀ j ∈ (Finset.univ : Finset (Fin 16)), ∀ j' ∈ (Finset.univ : Finset (Fin 16)), j ≠ j' → Disjoint (iSet j) (iSet j') :=
  fun j _ j' _ h => Finset.disjoint_left.mpr fun i hi hi' => by
    rw [mem_iSet] at hi hi'; exact h (Fin.ext (by omega))
/-- The output rows of different tiles or chunks are apart. -/
theorem oSet_disjoint : ∀ p ∈ (Finset.univ : Finset (Fin 16 × Fin 4)), ∀ p' ∈ (Finset.univ : Finset (Fin 16 × Fin 4)), p ≠ p' →
    Disjoint (oSet p.1 p.2) (oSet p'.1 p'.2) :=
  fun p _ p' _ h => Finset.disjoint_left.mpr fun i hi hi' => by
    rw [mem_oSet] at hi hi'
    have := p.2.isLt; have := p'.2.isLt
    exact h (Prod.ext (Fin.ext (by omega)) (Fin.ext (by omega)))
/-- The chunks of a tile's index list are apart. -/
theorem sSet_disjoint : ∀ c ∈ (Finset.univ : Finset (Fin 4)), ∀ c' ∈ (Finset.univ : Finset (Fin 4)), c ≠ c' → Disjoint (sSet c) (sSet c') :=
  fun j _ j' _ h => Finset.disjoint_left.mpr fun i hi hi' => by
    rw [mem_sSet] at hi hi'; exact h (Fin.ext (by omega))
/-- The chunks of its row buffer are apart. -/
theorem rSet_disjoint : ∀ c ∈ (Finset.univ : Finset (Fin 4)), ∀ c' ∈ (Finset.univ : Finset (Fin 4)), c ≠ c' → Disjoint (rSet c) (rSet c') :=
  fun j _ j' _ h => Finset.disjoint_left.mpr fun i hi hi' => by
    rw [mem_rSet] at hi hi'; exact h (Fin.ext (by omega))

/-- The tiles' lists make up all the indices. -/
theorem iSet_cover : (Finset.univ : Finset (Fin 16)).biUnion iSet = Finset.univ :=
  Finset.eq_univ_of_forall fun i => Finset.mem_biUnion.mpr (by
    have h : (i 0).val < 4096 := (i 0).isLt
    refine ⟨⟨(i 0).val / 256, by omega⟩, Finset.mem_univ _, (mem_iSet _ i).mpr ?_⟩
    show 256 * ((i 0).val / 256) ≤ _ ∧ _ < 256 * ((i 0).val / 256) + 256
    omega)
/-- The tiles' chunks make up the whole output. -/
theorem oSet_cover : (Finset.univ : Finset (Fin 16 × Fin 4)).biUnion (fun p => oSet p.1 p.2) = Finset.univ :=
  Finset.eq_univ_of_forall fun i => Finset.mem_biUnion.mpr (by
    have h : (i 0).val < 4096 := (i 0).isLt
    refine ⟨(⟨(i 0).val / 256, by omega⟩, ⟨(i 0).val % 256 / 64, by omega⟩), Finset.mem_univ _, (mem_oSet _ _ i).mpr ?_⟩
    show 256 * ((i 0).val / 256) + 64 * ((i 0).val % 256 / 64) ≤ _ ∧ _ < 256 * ((i 0).val / 256) + 64 * ((i 0).val % 256 / 64) + 64
    omega)
/-- The four chunks make up a tile's list. -/
theorem sSet_cover : (Finset.univ : Finset (Fin 4)).biUnion sSet = Finset.univ :=
  Finset.eq_univ_of_forall fun i => Finset.mem_biUnion.mpr (by
    have h : (i 0).val < 256 := (i 0).isLt
    refine ⟨⟨(i 0).val / 64, by omega⟩, Finset.mem_univ _, (mem_sSet _ i).mpr ?_⟩
    show 64 * ((i 0).val / 64) ≤ _ ∧ _ < 64 * ((i 0).val / 64) + 64
    omega)
/-- The four chunks make up its row buffer. -/
theorem rSet_cover : (Finset.univ : Finset (Fin 4)).biUnion rSet = Finset.univ :=
  Finset.eq_univ_of_forall fun i => Finset.mem_biUnion.mpr ⟨i 0, Finset.mem_univ _, (mem_rSet _ i).mpr rfl⟩

/-- Each array is held whole exactly when its windows are held. -/
theorem iPts_split (d : Dev nD) (f : Buf (Elt F) (iLoc d)) :
    (iLoc d ↦{fullShare} f : sProp 𝕄) = bigSep Finset.univ fun j : Fin 16 => iLoc d ↦[iSet j]{fullShare} f := by
  rw [← pointsTo_biUnion Finset.univ (ℓ := iLoc d) iSet iSet_disjoint, iSet_cover]; try rfl
/-- The output array is its tiles' chunks. -/
theorem oPts_split (d : Dev nD) (f : Buf (Elt F) (oLoc d)) :
    (oLoc d ↦{fullShare} f : sProp 𝕄)
      = bigSep Finset.univ fun j : Fin 16 => bigSep Finset.univ fun c : Fin 4 => oLoc d ↦[oSet j c]{fullShare} f := by
  rw [← bigSep_univ_prod (fun p : Fin 16 × Fin 4 => (oLoc d ↦[oSet p.1 p.2]{fullShare} f : sProp 𝕄)),
    ← pointsTo_biUnion Finset.univ (ℓ := oLoc d) (fun p : Fin 16 × Fin 4 => oSet p.1 p.2) oSet_disjoint, oSet_cover]; try rfl

/-- Task `j`'s share of the table, and of that the share each of its four streams reads. -/
abbrev xq (j : Fin 16) : PosShare TreeShare := pieceOf fullShare 16 (by decide) j
/-- Tile `j`'s share of the table for chunk `c`'s gather. -/
abbrev xqq (j : Fin 16) (c : Fin 4) : PosShare TreeShare := pieceOf (xq j) 4 (by decide) c

/-- The table is the shares that the tiles read it with. -/
theorem xPts_split (d : Dev nD) (f : Buf (Elt F) (xLoc d)) :
    (xLoc d ↦{fullShare} f : sProp 𝕄) = bigSep Finset.univ fun j : Fin 16 => xLoc d ↦{xq j} f :=
  pointsTo_piecesOf Finset.univ f (by decide) fullShare

/-- A conjunction over four, written out. -/
theorem bigSep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

/-! ## The gathered rows -/

/-- The row of the table a word names. -/
def rowIx (v : BitVec 32) : Fin 1000000 := ⟨v.toNat % 1000000, Nat.mod_lt _ (by decide)⟩

/-- The table's rows at the row numbers. -/
def gath (d : Dev nD) : Buf (Elt F) (oLoc d) := fun j : S4096x128.Idx =>
  (m (xLoc d) : S1000000x128.Idx → Elt F .f32) (ix2 (rowIx ((m (iLoc d) : S4096.Idx → BitVec 32) (ix1 (j 0)))) (j 1))

/-- What the proof asks of the launch memory: every row number is below a million. -/
def PreOK : Prop := ∀ (d : Dev nD) (j : S4096.Idx), ((m (iLoc d) : S4096.Idx → BitVec 32) j).toNat < 1000000

/-- What a task's window of the result ends with: the rows gathered at the task's 64 row numbers, which is the gathered
    table there. `fo` is what the row number fetch landed. -/
theorem win_value (d : Dev nD) (j : Fin 16) (c : Fin 4) (hpre : PreOK m) {oo : Fin 2 → Nat} {ho} {os : Fin 1 → Nat} {hs} {or : Fin 3 → Nat} {hr}
    (eo : oo = ![256 * j.val + 64 * c.val, 0]) (es : os = ![64 * c.val])
    (fo : S256.Idx → Elt F .i32) (hfo : ∀ k : S256.Idx, fo k = (iW ![256 * j.val] (iInb j)).view.read (Elt F) (m (iLoc d)) k)
    (f0 : S4096x128.Idx → Elt F .f32) (fd : S4x64x128.Idx → Elt F .f32)
    (hin : ∀ x, ((sW os hs).view.read (Elt F) fo x).toNat < S1000000x128.size gathers_S1000000x128_S64x128.axis) :
    ∀ i ∈ oSet j c, (oW oo ho).view.write (Elt F) f0
        ((rW or hr).view.read (Elt F) ((rW or hr).view.write (Elt F) fd
          (SparseCore.gatherPayload gathers_S1000000x128_S64x128 ((xW).view.read (Elt F) (m (xLoc d)))
            (SparseCore.rows ((sW os hs).view.read (Elt F) fo) (rfl : S64.numel = 64) hin)) Finset.univ)) Finset.univ i = gath m d i := by
  subst eo es
  intro i hi
  have hi' : i ∈ (oW ![256 * j.val + 64 * c.val, 0] ho).view.set := by rw [set_oW]; exact hi
  obtain ⟨x, -, rfl⟩ := Finset.mem_map.mp hi'
  rw [View.read_write_univ, View.write_emb_of_mem _ _ (Finset.mem_univ x)]
  refine (cast_eq _ _).trans ?_
  unfold SparseCore.gatherPayload
  refine (View.read_apply _ _).trans ((cast_eq _ _).trans ?_)
  unfold gath
  refine congrArg (m (xLoc d) : S1000000x128.Idx → Elt F .f32) ?_
  have hx0 : ((S64.rowMajor.symm ((x 0).cast rfl) : S64.Idx) 0).val = (x 0).val := by
    rw [← Shape.rowMajor_val_one, Equiv.apply_symm_apply]; rfl
  funext a
  match a with
  | ⟨0, _⟩ =>
    refine Fin.ext ?_
    show 0 + 1 * (gathers_S1000000x128_S64x128.idx _ x gathers_S1000000x128_S64x128.axis).val = _
    rw [Shape.Gathers.idx_axis, Nat.zero_add, Nat.one_mul]
    show ((sW ![64 * c.val] hs).view.read (Elt F) fo (S64.rowMajor.symm ((x 0).cast rfl))).toNat = _
    rw [View.read_apply, cast_eq, hfo, View.read_apply, cast_eq]
    refine (Nat.mod_eq_of_lt (hpre d _)).symm.trans (congrArg (fun q : S4096.Idx => ((m (iLoc d) : S4096.Idx → BitVec 32) q).toNat % 1000000) ?_)
    funext a
    match a with
    | ⟨0, _⟩ =>
      refine Fin.ext ?_
      show 256 * j.val + 1 * (64 * c.val + 1 * ((S64.rowMajor.symm ((x 0).cast rfl) : S64.Idx) 0).val) = 256 * j.val + 64 * c.val + 1 * (x 0).val
      rw [hx0]; omega
  | ⟨1, _⟩ =>
    refine Fin.ext ?_
    show 0 + 1 * (gathers_S1000000x128_S64x128.idx _ x 1).val = 0 + 1 * (x 1).val
    rw [Shape.Gathers.idx_of_ne _ _ _ _ (by decide)]; rfl

/-! ## The task -/

section Tile

variable [FloatOps F]
variable (d : Dev nD) (L : grid0.Coords)

/-- The SparseCore and the tile at a point of the launch grid. -/
abbrev cV (L : grid0.Coords) : Fin τ.nSC := (L 0).castLE hcore0
abbrev jV (L : grid0.Coords) : Fin τ.nSub := (L 1).castLE hsub0
/-- The grid's second axis runs over the sixteen tiles. -/
theorem bound_one : grid0.bound 1 = 16 := rfl
/-- The tile's number. -/
abbrev jL (L : grid0.Coords) : Fin 16 := Fin.cast bound_one (L 1)

omit [FloatOps F] in
/-- The offsets that the program computes in words are the plain numbers: first of the tile's list, then of a chunk of its output. -/
theorem off1_eq : k0_off1 L = ![256 * (jL L).val] := by
  have h : (L 0).val < 1 := (L 0).isLt
  rw [k0_off1_eq, show (L 0).val = 0 by omega]; rfl
omit [FloatOps F] in
theorem off2_eq (c : Fin 4) : k0_off2 L (BitVec.ofNat 32 (64 * c.val)) = ![256 * (jL L).val + 64 * c.val, 0] := by
  have h : (L 0).val < 1 := (L 0).isLt
  rw [k0_off2_eq, show (L 0).val = 0 by omega]; rfl

/-- The task's nine DMA semaphores. -/
def tileSems : Fin 9 → DmaSem sig := ![cc0_scratch2.sem, cc0_scratch3.sem, cc0_scratch4.sem, cc0_scratch5.sem, cc0_scratch6.sem, cc0_scratch7.sem, cc0_scratch8.sem, cc0_scratch9.sem, cc0_scoped0.sem]
/-- The tile's nine semaphores are different ones, -/
theorem tileSems_inj : Function.Injective tileSems := by decide
/-- and belong to the tile's own scope. -/
theorem tileSems_scoped : ∀ k, (SemLoc.dma (tileSems k) : SemLoc sig).isScoped .scVector = true := by decide
/-- A semaphore of the tile on its thread. -/
abbrev tileCell (thr : Thread nD τ) (k : Fin 9) : GSem nD τ sig := (thr, .dma (tileSems k))
/-- Different semaphores make different cells. -/
theorem tileCell_inj (thr : Thread nD τ) : Function.Injective (tileCell thr) :=
  fun a b h => tileSems_inj (by simpa [tileCell] using h)

omit [FloatOps F] in
/-- They are among the vector subcore's own: its own are they and the rest. -/
theorem ownSems0_V :
    (ownSems0 (V d (cV L) (jV L)) : sProp 𝕄)
      = iprop((semVal ((V d (cV L) (jV L)), SemLoc.dma cc0_scratch2.sem) 0 ∗ semVal ((V d (cV L) (jV L)), SemLoc.dma cc0_scratch3.sem) 0 ∗ semVal ((V d (cV L) (jV L)), SemLoc.dma cc0_scratch4.sem) 0
          ∗ semVal ((V d (cV L) (jV L)), SemLoc.dma cc0_scratch5.sem) 0 ∗ semVal ((V d (cV L) (jV L)), SemLoc.dma cc0_scratch6.sem) 0 ∗ semVal ((V d (cV L) (jV L)), SemLoc.dma cc0_scratch7.sem) 0
          ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scoped0.sem) 0)
          ∗ bigSep (ownCells (V d (cV L) (jV L)) \ Finset.univ.image (tileCell (V d (cV L) (jV L)))) fun g => semVal g 0) := by
  unfold SparseCore.Cfg.ownSems0
  rw [SparseCore.bigSep_sdiff_split' (t := Finset.univ.image (tileCell (V d (cV L) (jV L)))) (fun g hg => by
    obtain ⟨k, -, rfl⟩ := Finset.mem_image.mp hg
    exact mem_ownCells.mpr ⟨rfl, tileSems_scoped k⟩)]
  rw [bigSep_image_of_injOn ((tileCell_inj _).injOn),
    bigSep_univ_eq_bigSepL [(0 : Fin 9), 1, 2, 3, 4, 5, 6, 7, 8] (by decide) (by decide)]
  rfl

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.KI

end
-- ==== Proof.KIBody.lean ====
/-
  The SparseCore gather's task, its triple: the row number fetch, the four streams, the four copies out, every wait.
  Each window of the result is left holding the gathered rows.
-/
module

public import proofs.«01_k».proof.Proof.KITile

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-- What task `j` is handed: its row numbers, its share of the table, its four windows of the result. -/
abbrev iRowPts (j : Fin 16) : sProp 𝕄 := iLoc d ↦[iSet j]{fullShare} m (iLoc d)
/-- Tile `j`'s share of the table. -/
abbrev xShPts (j : Fin 16) : sProp 𝕄 := xLoc d ↦{xq j} m (xLoc d)
/-- Tile `j`'s four chunks of the output. -/
abbrev oRowPts (j : Fin 16) (f : Buf (Elt F) (oLoc d)) : sProp 𝕄 := bigSep Finset.univ fun c : Fin 4 => oLoc d ↦[oSet j c]{fullShare} f

omit [FloatOps F] in
/-- What a reference holds, as its rectangle of the array: the tile's indices, -/
theorem pts_iW (f : Buf (Elt F) (iLoc d)) :
    ((iW (k0_off1 L) (k0_off1_inb L)).view.loc (V d (cV L) (jV L)) ↦[(iW (k0_off1 L) (k0_off1_inb L)).view.set]{fullShare} f : sProp 𝕄)
      = iLoc d ↦[iSet (jL L)]{fullShare} f := by
  rw [set_iW, show (iRect (k0_off1 L) (k0_off1_inb L)) = iRect ![256 * (jL L).val] (iInb _) by congr 1; exact off1_eq L]
omit [FloatOps F] in
/-- a chunk of its output, -/
theorem pts_oW (c : Fin 4) {o : Fin 2 → Nat} (h) (eo : o = k0_off2 L (BitVec.ofNat 32 (64 * c.val))) (f : Buf (Elt F) (oLoc d)) :
    ((oW o h).view.loc (V d (cV L) (jV L)) ↦[(oW o h).view.set]{fullShare} f : sProp 𝕄) = oLoc d ↦[oSet (jL L) c]{fullShare} f := by
  rw [off2_eq] at eo; subst eo; rw [set_oW]
omit [FloatOps F] in
/-- a chunk of its index list, -/
theorem pts_sW (c : Fin 4) {o : Fin 1 → Nat} (h) (eo : o = ![64 * c.val]) (f : Buf (Elt F) ((V d (cV L) (jV L)).loc cc0_scratch0)) :
    ((sW o h).view.loc (V d (cV L) (jV L)) ↦[(sW o h).view.set]{fullShare} f : sProp 𝕄)
      = (V d (cV L) (jV L)).loc cc0_scratch0 ↦[sSet c]{fullShare} f := by
  subst eo; rw [set_sW]
omit [FloatOps F] in
/-- a chunk of its row buffer, -/
theorem pts_rW (c : Fin 4) {o : Fin 3 → Nat} (h) (eo : o = ![c.val, 0, 0]) (f : Buf (Elt F) ((V d (cV L) (jV L)).loc cc0_scratch1)) :
    ((rW o h).view.loc (V d (cV L) (jV L)) ↦[(rW o h).view.set]{fullShare} f : sProp 𝕄)
      = (V d (cV L) (jV L)).loc cc0_scratch1 ↦[rSet c]{fullShare} f := by
  subst eo; rw [set_rW]
omit [FloatOps F] in
/-- the table, -/
theorem pts_xW (q : PosShare TreeShare) (f : Buf (Elt F) (xLoc d)) :
    ((xW).view.loc (V d (cV L) (jV L)) ↦[(xW).view.set]{q} f : sProp 𝕄) = xLoc d ↦{q} f := by rw [set_xW]
omit [FloatOps F] in
/-- and the whole index list. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

omit [FloatOps F] in
/-- A task's fetched list and its row scratch, held whole exactly when their four windows are held; its share of the
    table, when its four streams' shares are. -/
theorem sPts_split (f : Buf (Elt F) ((V d (cV L) (jV L)).loc cc0_scratch0)) :
    ((V d (cV L) (jV L)).loc cc0_scratch0 ↦{fullShare} f : sProp 𝕄)
      = bigSep Finset.univ fun c : Fin 4 => (V d (cV L) (jV L)).loc cc0_scratch0 ↦[sSet c]{fullShare} f := by
  rw [← pointsTo_biUnion Finset.univ (ℓ := (V d (cV L) (jV L)).loc cc0_scratch0) sSet sSet_disjoint, sSet_cover]; try rfl
omit [FloatOps F] in
/-- The row buffer is its four chunks. -/
theorem rPts_split (f : Buf (Elt F) ((V d (cV L) (jV L)).loc cc0_scratch1)) :
    ((V d (cV L) (jV L)).loc cc0_scratch1 ↦{fullShare} f : sProp 𝕄)
      = bigSep Finset.univ fun c : Fin 4 => (V d (cV L) (jV L)).loc cc0_scratch1 ↦[rSet c]{fullShare} f := by
  rw [← pointsTo_biUnion Finset.univ (ℓ := (V d (cV L) (jV L)).loc cc0_scratch1) rSet rSet_disjoint, rSet_cover]; try rfl
/-- Four chunks, whatever each holds, are a row buffer. -/
theorem rPts_join : (bigSep Finset.univ fun c : Fin 4 => iprop(∃ f, (V d (cV L) (jV L)).loc cc0_scratch1 ↦[rSet c]{fullShare} f))
    ⊢ (iprop(∃ f, (V d (cV L) (jV L)).loc cc0_scratch1 ↦{fullShare} f) : sProp 𝕄) := by
  refine (bigSep_exists_pi Finset.univ (fun c (f : Buf (Elt F) ((V d (cV L) (jV L)).loc cc0_scratch1)) => iprop((V d (cV L) (jV L)).loc cc0_scratch1 ↦[rSet c]{fullShare} f))).trans ?_
  iintro ⟨%fs, H⟩
  have : Nonempty (Buf (Elt F) ((V d (cV L) (jV L)).loc cc0_scratch1)) := ⟨fs 0⟩
  ihave H' := (pointsTo_biUnion_join (ℓ := (V d (cV L) (jV L)).loc cc0_scratch1) (q := fullShare) (Val := Elt F) Finset.univ rSet fs (fs 0) rSet_disjoint) $$ H
  icases H' with ⟨%g, -, Hg⟩
  rw [rSet_cover]
  iexists g; iexact Hg
omit [FloatOps F] in
/-- A tile's share of the table is four shares, one for each gather in flight. -/
theorem xPts_four (j : Fin 16) (f : Buf (Elt F) (xLoc d)) :
    (xLoc d ↦{xq j} f : sProp 𝕄) = bigSep Finset.univ fun c : Fin 4 => xLoc d ↦{xqq j c} f :=
  pointsTo_piecesOf Finset.univ f (by decide) (xq j)

omit [FloatOps F] in
/-- What the row number fetch lands: the task's window of the row numbers. -/
abbrev fetched : S256.Idx → Elt F .i32 := (iW ![256 * (jL L).val] (iInb (jL L))).view.read (Elt F) (m (iLoc d))

omit [FloatOps F] in
/-- The words a stream reads are rows of the table. -/
theorem hin_of_pre (hpre : PreOK m) {o : Fin 1 → Nat} (h) :
    ∀ x, ((sW o h).view.read (Elt F) (fetched m d L) x).toNat < S1000000x128.size gathers_S1000000x128_S64x128.axis := by
  intro x
  rw [View.read_apply, cast_eq, fetched, View.read_apply, cast_eq]
  exact hpre d _

omit [FloatOps F] in
/-- The list scratch after the fetch holds exactly what was fetched. -/
theorem fetch_eq (fs : Buf (Elt F) ((V d (cV L) (jV L)).loc cc0_scratch0)) :
    View.write (Elt F) (sV).view fs ((iW (k0_off1 L) (k0_off1_inb L)).view.read (Elt F) (m (iLoc d))) Finset.univ = fetched m d L := by
  rw [View.write_whole_univ]
  funext k
  rw [fetched, View.read_apply, View.read_apply]
  have e : ∀ (o : Fin 1 → Nat) (h), o = ![256 * (jL L).val] → (iW o h).view.emb k = (iW ![256 * (jL L).val] (iInb (jL L))).view.emb k := by
    intro o h eo; subst eo; rfl
  rw [e _ _ (off1_eq L)]

/-- A window of the result after its copy out, as the run leaves it, holds the gathered rows. -/
theorem win_done (hpre : PreOK m) (c : Fin 4) {oo : Fin 2 → Nat} {ho} (os : Fin 1 → Nat) (hs) (or : Fin 3 → Nat) (hr)
    (eo : oo = k0_off2 L (BitVec.ofNat 32 (64 * c.val))) (es : os = ![64 * c.val])
    (f0 : S4096x128.Idx → Elt F .f32) (fd : S4x64x128.Idx → Elt F .f32)
    (hin : ∀ x, ((sW os hs).view.read (Elt F) (fetched m d L) x).toNat < S1000000x128.size gathers_S1000000x128_S64x128.axis)
    {w : S64x128.Idx → Elt F .f32}
    (hw : w = (rW or hr).view.read (Elt F) ((rW or hr).view.writes (Elt F) fd
          [⟨Rect.whole S64x128, SparseCore.gatherPayload gathers_S1000000x128_S64x128 ((xW).view.read (Elt F) (m (xLoc d)))
            (SparseCore.rows ((sW os hs).view.read (Elt F) (fetched m d L)) (rfl : S64.numel = 64) hin)⟩])) :
    ((oW oo ho).view.loc (V d (cV L) (jV L)) ↦[(oW oo ho).view.set]{fullShare} (oW oo ho).view.writes (Elt F) f0
        [⟨Rect.whole S64x128, w⟩] : sProp 𝕄)
      = oLoc d ↦[oSet (jL L) c]{fullShare} gath m d := by
  refine (pts_oW (F := F) d L c ho eo _).trans (pointsTo_congr fun i hi => ?_)
  rw [off2_eq] at eo
  have h := win_value m d (jL L) c hpre (ho := ho) (hs := hs) (hr := hr) eo es (fetched m d L) (fun _ => rfl) f0 fd hin i hi
  rw [View.read_write_univ] at h
  rw [hw, View.read_writes_whole, ← h]
  exact (congrFun (View.write_univ_eq_writes_whole (oW oo ho).view f0 [] _) i).symm

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ xShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scratch3 cc0_scratch4 cc0_scratch5
            cc0_scratch6 cc0_scratch7 cc0_scratch8 cc0_scratch9 cc0_scoped0)
          fun _ => iprop((iRowPts m d (jL L) ∗ xShPts m d (jL L) ∗ oRowPts d (jL L) (gath m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part1_eq_skeleton, k0_part2_eq_skeleton, k0_part3_eq_skeleton]
  unfold k0_part1_skel k0_part2_skel k0_part3_skel
  rw [(K (F := F)).scopedBufs_V hF d (cV L) (jV L), SparseCore.Cfg.scopedSems0_V (Val := Elt F) d (cV L) (jV L), ownSems0_V, ownBufs_V]
  unfold oRowPts
  rw [bigSep_four, bigSep_four]
  iintro ⟨#Hlv, -, ⟨Hi, Hx, Ho0, Ho1, Ho2, Ho3⟩, ⟨⟨%fs, Hs⟩, ⟨%fr, Hr⟩, Hbufs⟩, ⟨⟨Hg0, Hg1, Hg2, Hg3, Hw0, Hw1, Hw2, Hw3, Hf⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iW (F := F) d L _).symm) $$ Hi
  ihave Hs' := (Entails.of_eq (pts_sV (F := F) d L _).symm) $$ Hs
  sl_exec
  ihave Hs2 := (Entails.of_eq (show ((sV).view.loc (V d (cV L) (jV L)) ↦{fullShare} View.write (Elt F) (sV).view fs (tile_body.sl.dma0 m d L) Finset.univ : sProp 𝕄) = _ from
    (congrArg (fun f => ((V d (cV L) (jV L)).loc cc0_scratch0 ↦{fullShare} f : sProp 𝕄)) (fetch_eq m d L fs)).trans
      ((sPts_split (F := F) d L _).trans (bigSep_four _)))) $$ Hs'
  icases Hs2 with ⟨Hs0, Hs1, Hs2, Hs3⟩
  ihave Hs0 := (Entails.of_eq (pts_sW (F := F) d L 0 inb_S256_S64_0 rfl _).symm) $$ Hs0
  ihave Hs1 := (Entails.of_eq (pts_sW (F := F) d L 1 inb_S256_S64_64 rfl _).symm) $$ Hs1
  ihave Hs2 := (Entails.of_eq (pts_sW (F := F) d L 2 inb_S256_S64_128 rfl _).symm) $$ Hs2
  ihave Hs3 := (Entails.of_eq (pts_sW (F := F) d L 3 inb_S256_S64_192 rfl _).symm) $$ Hs3
  ihave Hr := (Entails.of_eq ((rPts_split (F := F) d L _).trans (bigSep_four _))) $$ Hr
  icases Hr with ⟨Hr0, Hr1, Hr2, Hr3⟩
  ihave Hr0 := (Entails.of_eq (pts_rW (F := F) d L 0 inb_S4x64x128_S1x64x128_0_0_0 rfl _).symm) $$ Hr0
  ihave Hr1 := (Entails.of_eq (pts_rW (F := F) d L 1 inb_S4x64x128_S1x64x128_1_0_0 rfl _).symm) $$ Hr1
  ihave Hr2 := (Entails.of_eq (pts_rW (F := F) d L 2 inb_S4x64x128_S1x64x128_2_0_0 rfl _).symm) $$ Hr2
  ihave Hr3 := (Entails.of_eq (pts_rW (F := F) d L 3 inb_S4x64x128_S1x64x128_3_0_0 rfl _).symm) $$ Hr3
  ihave Hx := (Entails.of_eq ((xPts_four (F := F) d _ _).trans (bigSep_four _))) $$ Hx
  icases Hx with ⟨Hx0, Hx1, Hx2, Hx3⟩
  ihave Hx0 := (Entails.of_eq (pts_xW (F := F) d L _ _).symm) $$ Hx0
  ihave Hx1 := (Entails.of_eq (pts_xW (F := F) d L _ _).symm) $$ Hx1
  ihave Hx2 := (Entails.of_eq (pts_xW (F := F) d L _ _).symm) $$ Hx2
  ihave Hx3 := (Entails.of_eq (pts_xW (F := F) d L _ _).symm) $$ Hx3
  ihave Ho0 := (Entails.of_eq (pts_oW (F := F) d L 0 (k0_off2_inb L 0) rfl _).symm) $$ Ho0
  ihave Ho1 := (Entails.of_eq (pts_oW (F := F) d L 1 (k0_off2_inb L 1) rfl _).symm) $$ Ho1
  ihave Ho2 := (Entails.of_eq (pts_oW (F := F) d L 2 (k0_off2_inb L 2) rfl _).symm) $$ Ho2
  ihave Ho3 := (Entails.of_eq (pts_oW (F := F) d L 3 (k0_off2_inb L 3) rfl _).symm) $$ Ho3
  have hin0 := hin_of_pre m d L hpre inb_S256_S64_0
  have hin1 := hin_of_pre m d L hpre inb_S256_S64_64
  have hin2 := hin_of_pre m d L hpre inb_S256_S64_128
  have hin3 := hin_of_pre m d L hpre inb_S256_S64_192
  sl_exec
  sl_step
  ihave Ho0 := (Entails.of_eq (win_done m d L hpre 0 ![0] inb_S256_S64_0 ![0, 0, 0] inb_S4x64x128_S1x64x128_0_0_0 rfl rfl _ fr hin0 (w := tile_body.sl.dma0_1 m d L fr hin0) rfl)) $$ Ho0
  ihave Ho1 := (Entails.of_eq (win_done m d L hpre 1 ![64] inb_S256_S64_64 ![1, 0, 0] inb_S4x64x128_S1x64x128_1_0_0 rfl rfl _ fr hin1 (w := tile_body.sl.dma0_2 m d L fr hin1) rfl)) $$ Ho1
  ihave Ho2 := (Entails.of_eq (win_done m d L hpre 2 ![128] inb_S256_S64_128 ![2, 0, 0] inb_S4x64x128_S1x64x128_2_0_0 rfl rfl _ fr hin2 (w := tile_body.sl.dma0_3 m d L fr hin2) rfl)) $$ Ho2
  ihave Ho3 := (Entails.of_eq (win_done m d L hpre 3 ![192] inb_S256_S64_192 ![3, 0, 0] inb_S4x64x128_S1x64x128_3_0_0 rfl rfl _ fr hin3 (w := tile_body.sl.dma0_4 m d L fr hin3) rfl)) $$ Ho3
  ihave Hr0 := (Entails.of_eq (pts_rW (F := F) d L 0 inb_S4x64x128_S1x64x128_0_0_0 rfl _)) $$ Hr0
  ihave Hr1 := (Entails.of_eq (pts_rW (F := F) d L 1 inb_S4x64x128_S1x64x128_1_0_0 rfl _)) $$ Hr1
  ihave Hr2 := (Entails.of_eq (pts_rW (F := F) d L 2 inb_S4x64x128_S1x64x128_2_0_0 rfl _)) $$ Hr2
  ihave Hr3 := (Entails.of_eq (pts_rW (F := F) d L 3 inb_S4x64x128_S1x64x128_3_0_0 rfl _)) $$ Hr3
  ihave Hs0 := (Entails.of_eq (pts_sW (F := F) d L 0 inb_S256_S64_0 rfl _)) $$ Hs0
  ihave Hs1 := (Entails.of_eq (pts_sW (F := F) d L 1 inb_S256_S64_64 rfl _)) $$ Hs1
  ihave Hs2 := (Entails.of_eq (pts_sW (F := F) d L 2 inb_S256_S64_128 rfl _)) $$ Hs2
  ihave Hs3 := (Entails.of_eq (pts_sW (F := F) d L 3 inb_S256_S64_192 rfl _)) $$ Hs3
  ihave Hx0 := (Entails.of_eq (pts_xW (F := F) d L _ _)) $$ Hx0
  ihave Hx1 := (Entails.of_eq (pts_xW (F := F) d L _ _)) $$ Hx1
  ihave Hx2 := (Entails.of_eq (pts_xW (F := F) d L _ _)) $$ Hx2
  ihave Hx3 := (Entails.of_eq (pts_xW (F := F) d L _ _)) $$ Hx3
  isplitl [Hi' Hx0 Hx1 Hx2 Hx3 Ho0 Ho1 Ho2 Ho3]
  · isplitl [Hi']; · iapply (Entails.of_eq (pts_iW (F := F) d L _)); iexact Hi'
    isplitl [Hx0 Hx1 Hx2 Hx3]
    · iapply (Entails.of_eq ((xPts_four (F := F) d _ _).trans (bigSep_four _)).symm)
      isplitl [Hx0]; · iexact Hx0
      isplitl [Hx1]; · iexact Hx1
      isplitl [Hx2]; · iexact Hx2
      iexact Hx3
    isplitl [Ho0]; · iexact Ho0
    isplitl [Ho1]; · iexact Ho1
    isplitl [Ho2]; · iexact Ho2
    iexact Ho3
  isplitl [Hs0 Hs1 Hs2 Hs3 Hr0 Hr1 Hr2 Hr3 Hbufs]
  · isplitl [Hs0 Hs1 Hs2 Hs3]
    · iexists (fetched m d L)
      iapply (Entails.of_eq ((sPts_split (F := F) d L _).trans (bigSep_four _)).symm)
      isplitl [Hs0]; · iexact Hs0
      isplitl [Hs1]; · iexact Hs1
      isplitl [Hs2]; · iexact Hs2
      iexact Hs3
    isplitl [Hr0 Hr1 Hr2 Hr3]
    · iapply (rPts_join (F := F) d L)
      iapply (Entails.of_eq (bigSep_four (M := 𝕄) _).symm)
      isplitl [Hr0]; · iexists _; iexact Hr0
      isplitl [Hr1]; · iexists _; iexact Hr1
      isplitl [Hr2]; · iexists _; iexact Hr2
      iexists _; iexact Hr3
    iexact Hbufs
  isplitl [Hg0 Hg1 Hg2 Hg3 Hw0 Hw1 Hw2 Hw3 Hf Hsems]
  · isplitr [Hsems]
    · isplitl [Hg0]; · iexact Hg0
      isplitl [Hg1]; · iexact Hg1
      isplitl [Hg2]; · iexact Hg2
      isplitl [Hg3]; · iexact Hg3
      isplitl [Hw0]; · iexact Hw0
      isplitl [Hw1]; · iexact Hw1
      isplitl [Hw2]; · iexact Hw2
      isplitl [Hw3]; · iexact Hw3
      iexact Hf
    iexact Hsems
  iexists _; isplitr
  swap; · iexact HO
  ipureintro; intro p hp
  iterate 9 (rcases Finset.mem_insert.mp hp with hp | hp; · exact .inr (hp ▸ rfl))
  exact .inl hp

end Cert.Proof.KI

end
-- ==== Proof.KILaunch.lean ====
/-
  The gather call of the program: what the handshakes of its launch carry, each task's obligation from the body's run, and the
  split of the call's operands over the sixteen tasks.

-/
module

public import proofs.«01_k».proof.Proof.KIBody

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-- The indices, the table and the output, whole, as the TensorCore hands them over. -/
abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f

/-- What the handshakes carry: the row numbers, the table and the result, whole to the SparseCore and shared out to the tasks; the
    result comes back holding the gathered rows. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (gath m d))
  go := fun q d _ i => match q with
    | 0 => iprop(iRowPts m d (Fin.cast nSub_zero i) ∗ xShPts m d (Fin.cast nSub_zero i) ∗ oRowPts d (Fin.cast nSub_zero i) (m (oLoc d)))
  td := fun q d _ i => match q with
    | 0 => iprop(iRowPts m d (Fin.cast nSub_zero i) ∗ xShPts m d (Fin.cast nSub_zero i) ∗ oRowPts d (Fin.cast nSub_zero i) (gath m d))
  x := fun _ _ => iprop(emp)

/-- What the handshakes carry can be stored. -/
instance P_storable : (P (F := F) m).IsStorable where
  st q d _ := match q with
    | 0 => (inferInstance : BI.Storable (upEmb : UEmb _ 𝕄) iprop(iPts m d ∗ xPts m d ∗ oPts d (m (oLoc d))))
  dn q d _ := match q with
    | 0 => (inferInstance : BI.Storable (upEmb : UEmb _ 𝕄) iprop(iPts m d ∗ xPts m d ∗ oPts d (gath m d)))
  go q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (gath m d)))

/-! ## A task's obligation -/

/-- The coordinates of the task on vector subcore `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's definition is the gather's body at its place in the grid. -/
theorem defs₀_vector (c : Fin τ.nSC) (s : Fin τ.nSub) :
    defs₀ (F := F) (.scVector c s) 0 ()
      = SparseCore.onTile hcore0 hsub0 (fun c s => cc0__sc_gather_body (coordsV c s)
          (Memref.whole main_arg5_scv) (Memref.isWhole_whole _) (Memref.whole main_arg0_scv) (Memref.isWhole_whole _)
          (Memref.whole main_v0_scv) (Memref.isWhole_whole _) (Memref.whole cc0_scratch0) (Memref.isWhole_whole _)
          (Memref.whole cc0_scratch1) (Memref.isWhole_whole _) cc0_scratch2 cc0_scratch3 cc0_scratch4 cc0_scratch5
          cc0_scratch6 cc0_scratch7 cc0_scratch8 cc0_scratch9 cc0_scoped0) ⟨⟩ c s := rfl

omit [FloatOps F] in
/-- A task's recorded waits, as the launch asks for them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

/-- Each task of the call does what the launch asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  have hj : jL (coordsV ⟨_, hci.1⟩ ⟨_, hci.2⟩) = Fin.cast nSub_zero i := Fin.ext rfl
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body m d (coordsV ⟨_, hci.1⟩ ⟨_, hci.2⟩) hF hpre O W hO).trans (wp_mono frame _ _ fun _ => obl_post (q := 0))
  rw [hj] at h
  exact h

/-! ## The call's operands over its tasks -/

omit [FloatOps F] in
/-- The tasks of the launch are the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The operands split over the sixteen tasks, and what the tasks hand back joins to the operands with the rows gathered. -/
theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iRowPts m d (Fin.cast nSub_zero i) ∗ xShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ xShPts m d (Fin.cast nSub_zero i) ∗ oRowPts d (Fin.cast nSub_zero i) (gath m d)))
          -∗ iprop(iPts m d ∗ xPts m d ∗ oPts d (gath m d))))
  rw [bigSep_tasks (F := F) (fun i => iprop(iRowPts m d i ∗ xShPts m d i ∗ oRowPts d i (m (oLoc d)))),
    bigSep_tasks (F := F) (fun i => iprop(iRowPts m d i ∗ xShPts m d i ∗ oRowPts d i (gath m d))), bigSep_sep', bigSep_sep', bigSep_sep', bigSep_sep']
  unfold iPts xPts oPts iRowPts xShPts oRowPts
  rw [iPts_split, xPts_split, oPts_split, oPts_split]
  iintro H; imodintro
  isplitl [H]; · iexact H
  iintro H; iexact H

/-- The sequencer's operands of the one SparseCore, and what it gives back. -/
theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
/-- What the launch gives back: the indices and the table as they were, and the gathered rows. -/
theorem dn0_eq (d : Dev nD) : (bigSep Finset.univ fun c : Fin ((K (F := F)).nCore 0) => (P m).dn 0 d c) = iprop(iPts m d ∗ xPts m d ∗ oPts d (gath m d)) :=
  bigSep_univ_of_subsingleton (0 : Fin 1)

end Cert.Proof.KI

end
-- ==== Proof.KIStage.lean ====
/-
  The two TensorCore kernels' bodies, run once each on any staging buffers: what each leaves in its output buffers, as a
  function of what it reads.

-/
module

public import proofs.«01_k».proof.Proof.KITile
public import proofs.«01_k».proof.Proof.Gen.KernelIdeal.Points
public import proofs.«01_k».proof.Proof.Gen.KernelIdeal.Launch
public import Idealize.ShloMosaic.Lib.Pipeline.Value

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The offsets of a whole block are zero. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

omit [FloatOps F] in
/-- A whole memref owned at contents is its buffer held at some contents that read as them. -/
theorem owns_whole {c : Dev nD} {sp : Space} {sh : Shape} {e : EltTy} {M : Memref sig .tc sp sh e} (h : M.IsWhole) (X : sh.Idx → Elt F e) :
    (owns c.tc M fullShare X : sProp 𝕄) = iprop(∃ f, ⌜M.view.read (Elt F) f = X⌝ ∗ (M.view.loc c.tc ↦{fullShare} f)) := by
  unfold owns; rw [h.set_eq_univ]

omit [FloatOps F] in
/-- A store through the whole of a view, the last one, is what the view then reads. -/
theorem read_writes_full {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (l : List (View.Piece (Elt F) S e)) :
    v.read (Elt F) (v.writes (Elt F) f (⟨Rect.unit off S.size inb, w⟩ :: l)) = w := by
  subst h; funext y
  have e := View.read_writes_cons_emb v f (Rect.whole S) w l y
  rw [Rect.emb_whole_apply] at e
  exact e

omit [FloatOps F] in
/-- A load of the whole of a view reads the view. -/
theorem readAt_full {κ : Kind} {sp : Space} {S : Shape} {e : EltTy} (v : View sig κ sp S e) (f : v.ty.Contents (Elt F)) {X : S.Idx → Elt F e}
    (hX : v.read (Elt F) f = X) {off : Fin S.rank → Nat} (h : off = fun _ => 0) (inb : ∀ a, off a + S.size a ≤ S.size a) :
    v.readAt (Elt F) (Rect.unit off S.size inb).toLoadRect f = X := by
  rw [View.readAt_eq_ld, View.ld_unit_zero (S := S) h, hX]

set_option maxHeartbeats 1000000 in
/-- The first kernel's body: it leaves the clipped probabilities of the rows it reads and, row by row, the second sum. -/
theorem run1 (c : Dev nD) (i : grid1.Coords) (M0 : Memref sig .tc .vmem S2048x128 .f32) (h0 : M0.IsWhole)
    (M1 : Memref sig .tc .vmem S2048x128 .bf16) (h1 : M1.IsWhole) (M2 : Memref sig .tc .vmem S1x1x2048 .f32) (h2 : M2.IsWhole)
    (X0 : Vec F S2048x128 .f32) (Y1 : Vec F S2048x128 .bf16) (Y2 : Vec F S1x1x2048 .f32) (Q : PUnit → sProp 𝕄) :
    iprop(owns c.tc M0 fullShare X0 ∗ owns c.tc M1 fullShare Y1 ∗ owns c.tc M2 fullShare Y2
        ∗ (iprop(owns c.tc M0 fullShare X0 ∗ owns c.tc M1 fullShare (k1_pay2 X0) ∗ owns c.tc M2 fullShare (k1_pay3 X0)) -∗ Q ⟨⟩))
      ⊢ wp frame (wpE (defs₀ (F := F)) 𝒱₀ c.tc none) Set.univ (cc1__tc_stage1_body i M0 h0 M1 h1 M2 h2) Q := by
  rw [owns_whole h0, owns_whole h1, owns_whole h2, owns_whole h1, owns_whole h2]
  iintro ⟨⟨%f0, %e0, H0⟩, ⟨%f1, -, H1⟩, ⟨%f2, -, H2⟩, Hk⟩
  rw [cc1__tc_stage1_body_eq_skeleton]; unfold cc1__tc_stage1_body_skel
  sl_exec
  sl_step
  iapply Hk
  isplitl [H0]; · iexists _; isplitr; swap; (· iexact H0); ipureintro; exact e0
  isplitl [H1]
  · iexists _; isplitr; swap; (· iexact H1); ipureintro
    rw [read_writes_full (S := S2048x128) _ _ hz2, View.readAt_eq_ld, View.ld_unit_zero (S := S2048x128) hz2, e0]
  · iexists _; isplitr; swap; (· iexact H2); ipureintro
    rw [read_writes_full (S := S1x1x2048) _ _ hz3, View.readAt_eq_ld, View.ld_unit_zero (S := S2048x128) hz2, e0]

omit [FloatOps F] in
/-- The one index of a one-element array. -/
theorem S1_idx (x : S1.Idx) : x = ix1 0 := by
  rw [eq_ix1 x]; exact congrArg ix1 (Fin.ext (Nat.lt_one_iff.mp (x 0).isLt))

/-- The running total's zero. -/
abbrev acc0 : Elt F .f32 := Scalar.ofBits .f32 0x00000000#32

set_option maxHeartbeats 2000000 in
/-- The second kernel's body at the first point: it leaves the first block's total and its output untouched. -/
theorem run2_first (c : Dev nD) (i : grid2.Coords) (hi : (i 0).val = 0) (M1 : Memref sig .tc .smem S1 .f32) (h1 : M1.IsWhole) (M2 : Memref sig .tc .vmem S2048x128 .f32)
    (h2 : M2.IsWhole) (M3 : Memref sig .tc .vmem S2048x128 .bf16) (h3 : M3.IsWhole) (M4 : Memref sig .tc .vmem S1x1x2048 .f32) (h4 : M4.IsWhole)
    (M5 : Memref sig .tc .smem S1x1 .f32) (h5 : M5.IsWhole) (M6 : Memref sig .tc .smem S1x1 .f32) (h6 : M6.IsWhole)
    (X1 : S1.Idx → Elt F .f32) (X2 : Vec F S2048x128 .f32) (X3 : Vec F S2048x128 .bf16) (X4 : Vec F S1x1x2048 .f32)
    (X5 X6 : S1x1.Idx → Elt F .f32) (Q : PUnit → sProp 𝕄) :
    iprop(owns c.tc M1 fullShare X1 ∗ owns c.tc M2 fullShare X2 ∗ owns c.tc M3 fullShare X3 ∗ owns c.tc M4 fullShare X4
        ∗ owns c.tc M5 fullShare X5 ∗ owns c.tc M6 fullShare X6
        ∗ (iprop(owns c.tc M1 fullShare X1 ∗ owns c.tc M2 fullShare X2 ∗ owns c.tc M3 fullShare X3 ∗ owns c.tc M4 fullShare X4
          ∗ owns c.tc M5 fullShare X5 ∗ owns c.tc M6 fullShare (fun _ => k2_pay1 X2 X3 X4 acc0)) -∗ Q ⟨⟩))
      ⊢ wp frame (wpE (defs₀ (F := F)) 𝒱₀ c.tc none) Set.univ (cc2__tc_stage2_body i M1 h1 M2 h2 M3 h3 M4 h4 M5 h5 M6 h6) Q := by
  rw [owns_whole h1, owns_whole h2, owns_whole h3, owns_whole h4, owns_whole h5, owns_whole h6, owns_whole h6]
  iintro ⟨⟨%f1, %e1, H1⟩, ⟨%f2, %e2, H2⟩, ⟨%f3, %e3, H3⟩, ⟨%f4, %e4, H4⟩, ⟨%f5, %e5, H5⟩, ⟨%f6, -, H6⟩, Hk⟩
  have g2 := readAt_full M2.view f2 e2 hz2 inb_S2048x128_S2048x128_0_0
  have g3 := readAt_full M3.view f3 e3 hz2 inb_S2048x128_S2048x128_0_0
  have g4 := readAt_full M4.view f4 e4 hz3 inb_S1x1x2048_S1x1x2048_0_0_0
  have hc1 : Scalar.cmpi .ne (Scalar.extui (Scalar.cmpi .eq (BitVec.ofNat 32 (i 0).val) 0#32)) 0#32 = 1#1 := by rw [hi]; rfl
  have hc2 : ¬ k2_cond2 i = 1#1 := by unfold k2_cond2; rw [hi]; decide
  rw [cc2__tc_stage2_body_eq_skeleton]; unfold cc2__tc_stage2_body_skel
  dsimp only
  rw [dif_pos hc1, dif_neg hc2]
  sl_exec
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  iexists _; isplitr; swap; (· iexact H6); ipureintro
  rw [read_writes_full (S := S1x1) _ _ hz2]
  rfl

set_option maxHeartbeats 2000000 in
/-- The second kernel's body at the last point: it adds the block's total and stores the loss. -/
theorem run2_last (c : Dev nD) (i : grid2.Coords) (hi : (i 0).val = 1) (M1 : Memref sig .tc .smem S1 .f32) (h1 : M1.IsWhole) (M2 : Memref sig .tc .vmem S2048x128 .f32)
    (h2 : M2.IsWhole) (M3 : Memref sig .tc .vmem S2048x128 .bf16) (h3 : M3.IsWhole) (M4 : Memref sig .tc .vmem S1x1x2048 .f32) (h4 : M4.IsWhole)
    (M5 : Memref sig .tc .smem S1x1 .f32) (h5 : M5.IsWhole) (M6 : Memref sig .tc .smem S1x1 .f32) (h6 : M6.IsWhole)
    (X1 : S1.Idx → Elt F .f32) (X2 : Vec F S2048x128 .f32) (X3 : Vec F S2048x128 .bf16) (X4 : Vec F S1x1x2048 .f32)
    (X5 : S1x1.Idx → Elt F .f32) (a : Elt F .f32) (Q : PUnit → sProp 𝕄) :
    iprop(owns c.tc M1 fullShare X1 ∗ owns c.tc M2 fullShare X2 ∗ owns c.tc M3 fullShare X3 ∗ owns c.tc M4 fullShare X4
        ∗ owns c.tc M5 fullShare X5 ∗ owns c.tc M6 fullShare (fun _ => a)
        ∗ (iprop(owns c.tc M1 fullShare X1 ∗ owns c.tc M2 fullShare X2 ∗ owns c.tc M3 fullShare X3 ∗ owns c.tc M4 fullShare X4
          ∗ owns c.tc M5 fullShare (fun _ => k2_pay2 (X1 (ix1 0)) (k2_pay1 X2 X3 X4 a))
          ∗ owns c.tc M6 fullShare (fun _ => k2_pay1 X2 X3 X4 a)) -∗ Q ⟨⟩))
      ⊢ wp frame (wpE (defs₀ (F := F)) 𝒱₀ c.tc none) Set.univ (cc2__tc_stage2_body i M1 h1 M2 h2 M3 h3 M4 h4 M5 h5 M6 h6) Q := by
  rw [owns_whole h1, owns_whole h2, owns_whole h3, owns_whole h4, owns_whole h5, owns_whole h6, owns_whole h5, owns_whole h6]
  iintro ⟨⟨%f1, %e1, H1⟩, ⟨%f2, %e2, H2⟩, ⟨%f3, %e3, H3⟩, ⟨%f4, %e4, H4⟩, ⟨%f5, -, H5⟩, ⟨%f6, %e6, H6⟩, Hk⟩
  have g2 := readAt_full M2.view f2 e2 hz2 inb_S2048x128_S2048x128_0_0
  have g3 := readAt_full M3.view f3 e3 hz2 inb_S2048x128_S2048x128_0_0
  have g4 := readAt_full M4.view f4 e4 hz3 inb_S1x1x2048_S1x1x2048_0_0_0
  have g1 := congrFun (readAt_full M1.view f1 e1 hz1 inb_S1_S1_0) (Shape.Idx.first (numel1_S1.symm ▸ Nat.one_pos))
  rw [show X1 _ = X1 (ix1 0) from congrArg X1 (S1_idx _)] at g1
  have g6 := congrFun (readAt_full M6.view f6 e6 hz2 inb_S1x1_S1x1_0_0) (Shape.Idx.first (numel1_S1x1.symm ▸ Nat.one_pos))
  have gs := congrArg (k2_pay1 (F := F) X2 X3 X4) g6
  have hc1 : ¬ Scalar.cmpi .ne (Scalar.extui (Scalar.cmpi .eq (BitVec.ofNat 32 (i 0).val) 0#32)) 0#32 = 1#1 := by rw [hi]; decide
  have hc2 : k2_cond2 i = 1#1 := by unfold k2_cond2; rw [hi]; rfl
  rw [cc2__tc_stage2_body_eq_skeleton]; unfold cc2__tc_stage2_body_skel
  dsimp only
  rw [dif_neg hc1, dif_pos hc2]
  sl_exec
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]
  · iexists _; isplitr; swap; (· iexact H5); ipureintro
    rw [read_writes_full (S := S1x1) _ _ hz2]
    funext x
    exact congr (congrArg k2_pay2 g1) gs
  iexists _; isplitr; swap; (· iexact H6); ipureintro
  rw [read_writes_full (S := S1x1) _ _ hz2]
  funext x
  exact gs

end Cert.Proof.KI

end
-- ==== Proof.KIReg.lean ====
/-
  The two TensorCore pipelines as regions of the program's thread state: their proof data at any entry contents of the
  unscoped buffers, the body obligations from the bodies' runs, and what each region leaves in its result arrays.

-/
module

public import proofs.«01_k».proof.Proof.KILaunch
public import proofs.«01_k».proof.Proof.KIStage
public import Idealize.ShloMosaic.Lib.Pipeline.RegionsLoop

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation)

variable [FloatOps F]

/-- Contents of every TensorCore buffer. -/
abbrev Vals (F : FTy → Type) : Type := (c : Dev nD) → (b : Ref sig .tc) → Buf (Elt F) ((c.tc : Thread nD τ).loc b)

variable (V : Vals F)

/-- Block `t` of the score rows, as the first pipeline stages it. -/
abbrev blkX (c : Dev nD) (t : Fin cfg1.N) : Vec F S2048x128 .f32 := ((cfg1.win 0).blk t).view.read (Elt F) (V c main_arg1)

/-- The blocks the second pipeline stages. -/
abbrev blkL (c : Dev nD) : Vec F S1 .f32 := ((cfg2.win 0).blk t2_0).view.read (Elt F) (V c main_v2)
/-- Step `t`'s blocks of the gathered rows, of the predictions and of the second dot products. -/
abbrev blkG (c : Dev nD) (t : Fin cfg2.N) : Vec F S2048x128 .f32 := ((cfg2.win 1).blk t).view.read (Elt F) (V c main_v0)
abbrev blkP (c : Dev nD) (t : Fin cfg2.N) : Vec F S2048x128 .bf16 := ((cfg2.win 2).blk t).view.read (Elt F) (V c main_v1_0)
abbrev blkT (c : Dev nD) (t : Fin cfg2.N) : Vec F S1x1x2048 .f32 := ((cfg2.win 3).blk t).view.read (Elt F) (V c main_v1_1)

/-- The running total after the second pipeline's first point. -/
def acc1 (c : Dev nD) : Elt F .f32 := k2_pay1 (blkG V c t2_0) (blkP V c t2_0) (blkT V c t2_0) acc0
/-- The loss, as the second pipeline's last point stores it. -/
def loss (c : Dev nD) : Elt F .f32 := k2_pay2 (blkL V c (ix1 0)) (k2_pay1 (blkG V c t2_1) (blkP V c t2_1) (blkT V c t2_1) (acc1 V c))

/-- The wait records a TensorCore may hold after the one SparseCore call. -/
def recs (c : Dev nD) : Set (SemLoc sig × HIx 1) := {p | (K (F := F)).lev (T c, p.1) p.2 ≤ 8}

/-- The first pipeline's proof data. -/
def dat1 (c : Dev nD) : Dat τ (Elt F) (HIx 1) ℕ UU ℕ cfg1 c where
  A w := V c (Pipeline.arrRef spec1 w)
  after w t := match w with
    | ⟨0, _⟩ => blkX V c t
    | ⟨1, _⟩ => k1_pay2 (blkX V c t)
    | ⟨2, _⟩ => k1_pay3 (blkX V c t)
  Φ _ := Pipeline.scopedRest spec1 c
  q _ := fullShare
  owed _ := 0
  recorded _ := recs (F := F) c

/-- The running total's cell, held at `a`. -/
abbrev accAt (c : Dev nD) (a : Elt F .f32) : sProp 𝕄 := owns c.tc (Memref.whole cc2_scratch0) fullShare (fun _ => a)
/-- The scoped buffers the second pipeline does not use. -/
abbrev rest2 (c : Dev nD) : sProp 𝕄 := Pipeline.scopedRestBut (Ix := HIx 1) (Name := ℕ) (U := UU) (Lvl := ℕ) (Val := Elt F) spec2 c [cc2_scratch0]

/-- The second pipeline's proof data: between its two points the running total's cell holds the first block's sum. -/
def dat2 (c : Dev nD) : Dat τ (Elt F) (HIx 1) ℕ UU ℕ cfg2 c where
  A w := V c (Pipeline.arrRef spec2 w)
  after w t := match w with
    | ⟨0, _⟩ => blkL V c
    | ⟨1, _⟩ => blkG V c t
    | ⟨2, _⟩ => blkP V c t
    | ⟨3, _⟩ => blkT V c t
    | ⟨4, _⟩ => fun _ => loss V c
  Φ t := if t.val = 1 then iprop(rest2 c ∗ accAt c (acc1 V c)) else Pipeline.scopedRest spec2 c
  q _ := fullShare
  owed _ := 0
  recorded _ := recs (F := F) c

/-- Before a step of the softmax stage its input buffer holds the step's block of logits. -/
theorem before1_0 (c : Dev nD) (t : Fin cfg1.N) (d) : (dat1 V c).before 0 t d = blkX V c t := by
  unfold Dat.before; rw [if_pos (fetch1_0 t)]; rfl

set_option backward.isDefEq.respectTransparency false in
/-- The softmax stage's body, at each step, leaves its two blocks written. -/
theorem body1 (c : Dev nD) : BodyObligation (dat1 V c) (defs₀ (F := F)) 𝒱₀ none Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt none t.succ = (dat1 V c).owesAt none t.castSucc from rfl]
  iintro ⟨HΦ, Howes, ⟨%d0, H0⟩, ⟨%d1, H1⟩, ⟨%d2, H2⟩⟩
  rw [before1_0]
  iapply (run1 c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2)) (blkX V c t) _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The running total's cell, out of the scoped buffers and back. -/
theorem rest2_split (c : Dev nD) : (Pipeline.scopedRest spec2 c : sProp 𝕄)
    = iprop((∃ f : Buf (Elt F) (c.tc.loc cc2_scratch0), (c.tc.loc cc2_scratch0) ↦{fullShare} f) ∗ rest2 c) := by
  rw [Pipeline.scopedRest_split_of_list spec2 c [cc2_scratch0] (by decide) (by decide)]
  rfl

/-- The running total's cell at some contents. -/
theorem acc_some (c : Dev nD) (a : Elt F .f32) : (accAt c a : sProp 𝕄)
    ⊢ iprop(∃ f : Buf (Elt F) (c.tc.loc cc2_scratch0), (c.tc.loc cc2_scratch0) ↦{fullShare} f) := by
  unfold accAt; rw [owns_whole (Memref.isWhole_whole _)]
  iintro ⟨%f6, -, H6⟩; iexists f6; iexact H6

/-- Before the loss stage's first step the first loss stands in its buffer, -/
theorem before2_0_0 (c : Dev nD) (d) : (dat2 V c).before 0 t2_0 d = blkL V c := by
  unfold Dat.before; rw [if_pos ((fetch2_0 t2_0).mpr rfl)]; rfl
/-- and before its second too. -/
theorem before2_0_1 (c : Dev nD) (d) : (dat2 V c).before 0 t2_1 d = blkL V c := by
  unfold Dat.before; rw [if_neg (fun h => absurd ((fetch2_0 t2_1).mp h) (by decide)), if_neg (by decide)]; rfl
/-- The buffers of the loss stage hold the step's gathered rows, -/
theorem before2_1 (c : Dev nD) (t : Fin cfg2.N) (d) : (dat2 V c).before 1 t d = blkG V c t := by
  unfold Dat.before; rw [if_pos (fetch2_1 t)]; rfl
/-- predictions, -/
theorem before2_2 (c : Dev nD) (t : Fin cfg2.N) (d) : (dat2 V c).before 2 t d = blkP V c t := by
  unfold Dat.before; rw [if_pos (fetch2_2 t)]; rfl
/-- and second dot products; -/
theorem before2_3 (c : Dev nD) (t : Fin cfg2.N) (d) : (dat2 V c).before 3 t d = blkT V c t := by
  unfold Dat.before; rw [if_pos (fetch2_3 t)]; rfl
/-- the result's buffer is as it was found. -/
theorem before2_4_0 (c : Dev nD) (d) : (dat2 V c).before 4 t2_0 d = d := by
  unfold Dat.before; rw [if_neg (by decide), if_pos (by decide)]

/-- The first step leaves the result's buffer alone, -/
theorem idle2_0 : cfg2.idle 4 (cfg2.grid.coords t2_0) = true := by decide
/-- the second does not, -/
theorem idle2_1 : cfg2.idle 4 (cfg2.grid.coords t2_1) = false := by decide
/-- and nothing is flushed after the first. -/
theorem flush2_0 : (cfg2.win 4).flush t2_0 = false := by decide

set_option backward.isDefEq.respectTransparency false in
/-- The loss stage's first step starts the running sum and adds its half's terms. -/
theorem body2_0 (c : Dev nD) : iprop((dat2 V c).Φ t2_0.castSucc ∗ (dat2 V c).owesAt none t2_0.castSucc
        ∗ bigSep Finset.univ fun w : Fin cfg2.W => iprop(∃ d, owns c.tc ((cfg2.win w).stage (cfg2.slots t2_0 w)) fullShare ((dat2 V c).before w t2_0 d)))
      ⊢ wp frame (wpE (defs₀ (F := F)) 𝒱₀ c.tc none) Set.univ (defs₀ .tc cfg2.body (cfg2.bodyArgs t2_0 (cfg2.slots t2_0))) fun _ =>
        iprop((dat2 V c).Φ t2_0.succ ∗ (dat2 V c).owesAt none t2_0.succ ∗ bigSep Finset.univ fun w : Fin cfg2.W =>
          match cfg2.idle w (cfg2.grid.coords t2_0) with
          | true => match (cfg2.win w).flush t2_0 with
            | false => iprop(∃ d, owns c.tc ((cfg2.win w).stage (cfg2.slots t2_0 w)) fullShare ((dat2 V c).before w t2_0 d))
            | true => owns c.tc ((cfg2.win w).stage (cfg2.slots t2_0 w)) fullShare ((dat2 V c).after w t2_0)
          | false => owns c.tc ((cfg2.win w).stage (cfg2.slots t2_0 w)) fullShare ((dat2 V c).after w t2_0)) := by
  rw [bigSep_W2, bigSep_W2]
  simp only [show idle2 4 (grid2.coords t2_0) = true from idle2_0, show (win2 4).flush t2_0 = false from flush2_0]
  rw [show (dat2 V c).Φ t2_0.castSucc = Pipeline.scopedRest spec2 c from rfl, show (dat2 V c).Φ t2_0.succ = iprop(rest2 c ∗ accAt c (acc1 V c)) from rfl,
    show (dat2 V c).owesAt none t2_0.succ = (dat2 V c).owesAt none t2_0.castSucc from rfl, rest2_split]
  iintro ⟨⟨⟨%f6, H6⟩, HΦ⟩, Howes, ⟨%d0, H0⟩, ⟨%d1, H1⟩, ⟨%d2, H2⟩, ⟨%d3, H3⟩, ⟨%d4, H4⟩⟩
  rw [before2_0_0, before2_1, before2_2, before2_3, before2_4_0]
  iapply (run2_first c (grid2.coords t2_0) rfl (win2_0.stage (cfg2.slots t2_0 0)) (hstage2_0 ((cfg2.slots t2_0 0).cast nbuf2_0)) (win2_1.stage (cfg2.slots t2_0 1))
    (hstage2_1 ((cfg2.slots t2_0 1).cast nbuf2_1)) (win2_2.stage (cfg2.slots t2_0 2)) (hstage2_2 ((cfg2.slots t2_0 2).cast nbuf2_2))
    (win2_3.stage (cfg2.slots t2_0 3)) (hstage2_3 ((cfg2.slots t2_0 3).cast nbuf2_3)) (win2_4.stage (cfg2.slots t2_0 4)) (hstage2_4 ((cfg2.slots t2_0 4).cast nbuf2_4))
    (Memref.whole cc2_scratch0) (Memref.isWhole_whole _) (blkL V c) (blkG V c t2_0) (blkP V c t2_0) (blkT V c t2_0) d4 f6 _)
  isplitl [H0]; · iexact H0
  isplitl [H1]; · iexact H1
  isplitl [H2]; · iexact H2
  isplitl [H3]; · iexact H3
  isplitl [H4]; · iexact H4
  isplitl [H6]
  · rw [owns_whole (Memref.isWhole_whole _)]; iexists f6; isplitr; · ipureintro; rfl
    iexact H6
  iintro ⟨H0, H1, H2, H3, H4, H6⟩
  isplitl [HΦ H6]
  · isplitl [HΦ]; · iexact HΦ
    iexact H6
  isplitl [Howes]; · iexact Howes
  isplitl [H0]; · iexact H0
  isplitl [H1]; · iexact H1
  isplitl [H2]; · iexact H2
  isplitl [H3]; · iexact H3
  iexists d4; rw [before2_4_0]; iexact H4

set_option backward.isDefEq.respectTransparency false in
/-- Its second step adds the other half's terms and writes the loss. -/
theorem body2_1 (c : Dev nD) : iprop((dat2 V c).Φ t2_1.castSucc ∗ (dat2 V c).owesAt none t2_1.castSucc
        ∗ bigSep Finset.univ fun w : Fin cfg2.W => iprop(∃ d, owns c.tc ((cfg2.win w).stage (cfg2.slots t2_1 w)) fullShare ((dat2 V c).before w t2_1 d)))
      ⊢ wp frame (wpE (defs₀ (F := F)) 𝒱₀ c.tc none) Set.univ (defs₀ .tc cfg2.body (cfg2.bodyArgs t2_1 (cfg2.slots t2_1))) fun _ =>
        iprop((dat2 V c).Φ t2_1.succ ∗ (dat2 V c).owesAt none t2_1.succ ∗ bigSep Finset.univ fun w : Fin cfg2.W =>
          match cfg2.idle w (cfg2.grid.coords t2_1) with
          | true => match (cfg2.win w).flush t2_1 with
            | false => iprop(∃ d, owns c.tc ((cfg2.win w).stage (cfg2.slots t2_1 w)) fullShare ((dat2 V c).before w t2_1 d))
            | true => owns c.tc ((cfg2.win w).stage (cfg2.slots t2_1 w)) fullShare ((dat2 V c).after w t2_1)
          | false => owns c.tc ((cfg2.win w).stage (cfg2.slots t2_1 w)) fullShare ((dat2 V c).after w t2_1)) := by
  rw [bigSep_W2, bigSep_W2]
  simp only [show idle2 4 (grid2.coords t2_1) = false from idle2_1]
  rw [show (dat2 V c).Φ t2_1.castSucc = iprop(rest2 c ∗ accAt c (acc1 V c)) from rfl, show (dat2 V c).Φ t2_1.succ = Pipeline.scopedRest spec2 c from rfl,
    show (dat2 V c).owesAt none t2_1.succ = (dat2 V c).owesAt none t2_1.castSucc from rfl, rest2_split]
  iintro ⟨⟨HΦ, H6⟩, Howes, ⟨%d0, H0⟩, ⟨%d1, H1⟩, ⟨%d2, H2⟩, ⟨%d3, H3⟩, ⟨%d4, H4⟩⟩
  rw [before2_0_1, before2_1, before2_2, before2_3]
  iapply (run2_last c (grid2.coords t2_1) rfl (win2_0.stage (cfg2.slots t2_1 0)) (hstage2_0 ((cfg2.slots t2_1 0).cast nbuf2_0)) (win2_1.stage (cfg2.slots t2_1 1))
    (hstage2_1 ((cfg2.slots t2_1 1).cast nbuf2_1)) (win2_2.stage (cfg2.slots t2_1 2)) (hstage2_2 ((cfg2.slots t2_1 2).cast nbuf2_2))
    (win2_3.stage (cfg2.slots t2_1 3)) (hstage2_3 ((cfg2.slots t2_1 3).cast nbuf2_3)) (win2_4.stage (cfg2.slots t2_1 4)) (hstage2_4 ((cfg2.slots t2_1 4).cast nbuf2_4))
    (Memref.whole cc2_scratch0) (Memref.isWhole_whole _) (blkL V c) (blkG V c t2_1) (blkP V c t2_1) (blkT V c t2_1) _ (acc1 V c) _)
  isplitl [H0]; · iexact H0
  isplitl [H1]; · iexact H1
  isplitl [H2]; · iexact H2
  isplitl [H3]; · iexact H3
  isplitl [H4]; · iexact H4
  isplitl [H6]; · iexact H6
  iintro ⟨H0, H1, H2, H3, H4, H6⟩
  isplitl [HΦ H6]
  · isplitl [H6]; swap; · iexact HΦ
    iapply (acc_some c _) $$ H6
  isplitl [Howes]; · iexact Howes
  isplitl [H0]; · iexact H0
  isplitl [H1]; · iexact H1
  isplitl [H2]; · iexact H2
  isplitl [H3]; · iexact H3
  iexact H4

/-- The second pipeline's body obligation: its two points. -/
theorem body2 (c : Dev nD) : BodyObligation (dat2 V c) (defs₀ (F := F)) 𝒱₀ none Set.univ := fun t => by
  rcases fin_N2 t with rfl | rfl
  · exact body2_0 V c
  · exact body2_1 V c

/-! ## What the regions leave in their result arrays -/

/-- The first pipeline's results, as its write-backs leave them. -/
def outP (c : Dev nD) : Buf (Elt F) ((c.tc : Thread nD τ).loc main_v1_0) := (dat1 V c).arrAt 1 cfg1.N
/-- The second dot products that the softmax stage leaves. -/
def outT (c : Dev nD) : Buf (Elt F) ((c.tc : Thread nD τ).loc main_v1_1) := (dat1 V c).arrAt 2 cfg1.N
/-- The second pipeline's result. -/
def outR (c : Dev nD) : Buf (Elt F) ((c.tc : Thread nD τ).loc main_v3) := (dat2 V c).arrAt 4 cfg2.N

/-- Step `t` of the softmax stage takes and writes the blocks numbered `t`. -/
theorem idx1_0 (t : Fin cfg1.N) : win1_0.index t 0 = t.val ∧ win1_0.index t 1 = 0 := by rcases fin_N1 t with rfl | rfl <;> decide
theorem idx1_1 (t : Fin cfg1.N) : win1_1.index t 0 = t.val ∧ win1_1.index t 1 = 0 := by rcases fin_N1 t with rfl | rfl <;> decide
theorem idx1_2 (t : Fin cfg1.N) : win1_2.index t 0 = t.val ∧ win1_2.index t 1 = 0 ∧ win1_2.index t 2 = 0 := by rcases fin_N1 t with rfl | rfl <;> decide

/-- Blocks of predictions flushed at different steps are apart, -/
theorem disj1_1 (t t' : Fin cfg1.N) (_ : (cfg1.win 1).flush t = true) (_ : (cfg1.win 1).flush t' = true) (h : t ≠ t') :
    Disjoint ((cfg1.win 1).blk t).view.set ((cfg1.win 1).blk t').view.set := by
  refine Finset.disjoint_left.mpr fun i h1 h2 => h (Fin.ext ?_)
  rw [show ((cfg1.win 1).blk t).view.set = ((View.whole main_v1_0).slice (win1_1.rect t)).set from rfl, View.set_slice_whole, Rect.mem_set_unit] at h1
  rw [show ((cfg1.win 1).blk t').view.set = ((View.whole main_v1_0).slice (win1_1.rect t')).set from rfl, View.set_slice_whole, Rect.mem_set_unit] at h2
  have e1 : win1_1.index t 0 * 2048 ≤ (i 0 : Nat) ∧ (i 0 : Nat) < win1_1.index t 0 * 2048 + 2048 := h1 0
  have e2 : win1_1.index t' 0 * 2048 ≤ (i 0 : Nat) ∧ (i 0 : Nat) < win1_1.index t' 0 * 2048 + 2048 := h2 0
  rw [(idx1_1 t).1] at e1; rw [(idx1_1 t').1] at e2
  omega

/-- and so are those of the second dot products. -/
theorem disj1_2 (t t' : Fin cfg1.N) (_ : (cfg1.win 2).flush t = true) (_ : (cfg1.win 2).flush t' = true) (h : t ≠ t') :
    Disjoint ((cfg1.win 2).blk t).view.set ((cfg1.win 2).blk t').view.set := by
  refine Finset.disjoint_left.mpr fun i h1 h2 => h (Fin.ext ?_)
  rw [show ((cfg1.win 2).blk t).view.set = ((View.whole main_v1_1).slice (win1_2.rect t)).set from rfl, View.set_slice_whole, Rect.mem_set_unit] at h1
  rw [show ((cfg1.win 2).blk t').view.set = ((View.whole main_v1_1).slice (win1_2.rect t')).set from rfl, View.set_slice_whole, Rect.mem_set_unit] at h2
  have e1 : win1_2.index t 0 * 1 ≤ (i 0 : Nat) ∧ (i 0 : Nat) < win1_2.index t 0 * 1 + 1 := h1 0
  have e2 : win1_2.index t' 0 * 1 ≤ (i 0 : Nat) ∧ (i 0 : Nat) < win1_2.index t' 0 * 1 + 1 := h2 0
  rw [(idx1_2 t).1] at e1; rw [(idx1_2 t').1] at e2
  omega

/-- Block `t` of the first pipeline's first result is the clipped probabilities of the score rows' block `t`. -/
theorem read_outP (c : Dev nD) (t : Fin cfg1.N) : ((cfg1.win 1).blk t).view.read (Elt F) (outP V c) = k1_pay2 (blkX V c t) :=
  (dat1 V c).read_blk_arrAt_eq_flushed 1 disj1_1 cfg1.N t t.isLt (flush1_1 t)

/-- Block `t` of its second result is the second sums of those rows. -/
theorem read_outT (c : Dev nD) (t : Fin cfg1.N) : ((cfg1.win 2).blk t).view.read (Elt F) (outT V c) = k1_pay3 (blkX V c t) :=
  (dat1 V c).read_blk_arrAt_eq_flushed 2 disj1_2 cfg1.N t t.isLt (flush1_2 t)

/-- The second pipeline's result is the loss. -/
theorem outR_eq (c : Dev nD) : outR V c = fun _ => loss V c :=
  (dat2 V c).arrAt_eq_of_cover 4 (fun _ => loss V c) (fun _ _ => rfl) fun i =>
    ⟨t2_1, (flush2_4 t2_1).mpr rfl, by
      show i ∈ ((View.whole main_v3).slice (win2_4.rect t2_1)).set
      rw [View.set_slice_whole, Rect.mem_set_unit]
      intro a
      have h0 : (i 0 : Nat) < 1 := (i 0).isLt
      have h1 : (i 1 : Nat) < 1 := (i 1).isLt
      match a with
      | ⟨0, _⟩ => show win2_4.index t2_1 0 * win2_4.size 0 ≤ (i 0 : Nat) ∧ (i 0 : Nat) < win2_4.index t2_1 0 * win2_4.size 0 + win2_4.xsize (grid2.coords t2_1) 0
                  rw [show win2_4.index t2_1 0 * win2_4.size 0 = 0 from by decide +kernel, show win2_4.xsize (grid2.coords t2_1) 0 = 1 from by decide +kernel]; omega
      | ⟨1, _⟩ => show win2_4.index t2_1 1 * win2_4.size 1 ≤ (i 1 : Nat) ∧ (i 1 : Nat) < win2_4.index t2_1 1 * win2_4.size 1 + win2_4.xsize (grid2.coords t2_1) 1
                  rw [show win2_4.index t2_1 1 * win2_4.size 1 = 0 from by decide +kernel, show win2_4.xsize (grid2.coords t2_1) 1 = 1 from by decide +kernel]; omega⟩

end Cert.Proof.KI

end
-- ==== Proof.KIRegion.lean ====
/-
  The two TensorCore pipelines as regions: each is entered from any contents of the unscoped buffers and left with its
  result arrays at what its write-backs leave, the wait records staying within what the SparseCore call allows.

-/
module

public import proofs.«01_k».proof.Proof.KIReg

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation)

variable [FloatOps F]

/-- Proof data for a pipeline an entry does not run: anything. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- Both staged calls are admissible. -/
abbrev adm : (p : Fin 2) → (pcfgs (F := F) p).Adm := fun p => (cfgs p).toPCfg_adm

variable (V : Vals F)

/-- What the two calls' steps hold and leave, when the first runs, -/
def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => idleDat c

/-- and when the second does. -/
def pdats2 : (p : Fin 2) → (c : Dev nD) → Dat τ (Elt F) (HIx 1) ℕ UU ℕ (Pipeline.pin (pcfgs (F := F)) adm p) c
  | ⟨0, _⟩ => fun c => idleDat c
  | ⟨1, _⟩ => fun c => dat2 V c

/-- The core owes nothing, its wait records within the SparseCore call's bound. -/
def owesT (c : Dev nD) : sProp 𝕄 := iprop(∃ W, ⌜(K (F := F)).WBelow (T c) W 8⌝ ∗ owes (c.tc : Thread nD τ) (0 : CellTallies nD τ sig (HIx 1)) W)

/-- A region's thread state: the unscoped buffers at `V`, and what the core owes. -/
def regSt (c : Dev nD) (V : Vals F) : sProp 𝕄 := iprop(unscopedBufs c (V c) ∗ owesT (F := F) c)

variable (Vp : Vals F)

set_option backward.isDefEq.respectTransparency.types false in
/-- The first pipeline's region. -/
def reg1 (hP : ∀ c, Vp c main_v1_0 = outP V c) (hT : ∀ c, Vp c main_v1_1 = outT V c)
    (hne : ∀ c (b : Ref sig .tc), b ≠ main_v1_0 → b ≠ main_v1_1 → Vp c b = V c b) :
    Pipeline.RegionSeg (pcfgs (F := F)) adm (pdats1 V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := regSt c V
  post c := regSt c Vp
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V) launch1.win launch1.arr_whole c
      ((pdats1 V 0 c).share_full fun _ => rfl) (V c) fun _ => rfl
    unfold regSt owesT
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats1 V 0 c).Φ 0 = Pipeline.scopedRest spec1 c from rfl]
    iintro ⟨-, -, Hr⟩; iexact Hr
  hout c := by
    rw [Pipeline.ownSems0_none, show (pdats1 V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats1 V) ((pdats1 V 0 c).share_full fun _ => rfl) (V c) (Vp c) ((pdats1 V 0 c).arrAt · cfg1.N)
      (fun w => by
        fin_cases w
        · exact ((pdats1 V 0 c).arrAt_in 0 rfl _).trans (hne c main_arg1 (by decide) (by decide)).symm
        · exact (hP c).symm
        · exact (hT c).symm)
      (fun b hb => hne c b (fun h => hb (h ▸ Finset.mem_image.mpr ⟨1, Finset.mem_univ _, rfl⟩))
        (fun h => hb (h ▸ Finset.mem_image.mpr ⟨2, Finset.mem_univ _, rfl⟩)))
    unfold regSt owesT
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    exact fun p hp => (hW hp).elim id fun ⟨w, s, e⟩ => by rw [e]; exact Nat.zero_le _

set_option backward.isDefEq.respectTransparency.types false in
/-- The second pipeline's region. -/
def reg2 (hR : ∀ c, Vp c main_v3 = outR V c) (hne : ∀ c (b : Ref sig .tc), b ≠ main_v3 → Vp c b = V c b) :
    Pipeline.RegionSeg (pcfgs (F := F)) adm (pdats2 V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := regSt c V
  post c := regSt c Vp
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V) launch2.win launch2.arr_whole c
      ((pdats2 V 1 c).share_full fun _ => rfl) (V c) fun _ => rfl
    unfold regSt owesT
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats2 V 1 c).Φ 0 = Pipeline.scopedRest spec2 c from rfl]
    iintro ⟨-, -, Hr⟩; iexact Hr
  hout c := by
    rw [Pipeline.ownSems0_none, show (pdats2 V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V) ((pdats2 V 1 c).share_full fun _ => rfl) (V c) (Vp c) ((pdats2 V 1 c).arrAt · cfg2.N)
      (fun w => by
        fin_cases w
        · exact ((pdats2 V 1 c).arrAt_in 0 rfl _).trans (hne c main_v2 (by decide)).symm
        · exact ((pdats2 V 1 c).arrAt_in 1 rfl _).trans (hne c main_v0 (by decide)).symm
        · exact ((pdats2 V 1 c).arrAt_in 2 rfl _).trans (hne c main_v1_0 (by decide)).symm
        · exact ((pdats2 V 1 c).arrAt_in 3 rfl _).trans (hne c main_v1_1 (by decide)).symm
        · exact (hR c).symm)
      (fun b hb => hne c b fun h => hb (h ▸ Finset.mem_image.mpr ⟨4, Finset.mem_univ _, rfl⟩))
    unfold regSt owesT
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    exact fun p hp => (hW hp).elim id fun ⟨w, s, e⟩ => by rw [e]; exact Nat.zero_le _

end Cert.Proof.KI

end
-- ==== Proof.KIMain.lean ====
/-
  The program's run: the gather, the two pipelines and the two reshapes of @main one after another, from any launch memory whose
  row numbers name rows of the table, to the loss in the result and every argument as it was.

-/
module

public import proofs.«01_k».proof.Proof.KIRegion
public import Idealize.ShloMosaic.Lib.SparseCore.Quiescent
public import Idealize.ShloMosaic.Lib.StableHlo.Run

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr wp_hlo_within tcRefs)
open Idealize.ShloMosaic.Pipeline (cellsGhost toksInit)

variable [FloatOps F]
variable (m : (ℓ : Loc nD τ sig) → Buf (Elt F) ℓ) (ρ : Dev nD → PrngReg)

/-! ## The pipelines' share of the ghost state -/

/-- Where the staged calls' rounds sit in the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- They sit in the user's part of it. -/
instance EP_landsIn : (EP : Emb UP 𝕄).LandsIn (upEmb : UEmb _ 𝕄) := by unfold EP; infer_instance

/-- The staged calls' ghost state at launch, -/
def uP : UP := initOf (Pipeline.cells cfgs cellOf_inj) (Pipeline.launchToks cfgs cellOf_inj)
/-- and all of it. -/
def u₀ : UU := (initOf (K (F := F)).hsCells (K (F := F)).hsToks, (uP, 1))

/-- The two pipelines' ghost state on core `d`. -/
abbrev ghosts (d : Dev nD) : sProp 𝕄 :=
  iprop((bigSep Finset.univ fun p : Fin 2 => cellsGhost (Pipeline.pin (pcfgs (F := F)) adm) EP p d)
    ∗ bigSep Finset.univ fun p : Fin 2 => toksInit (Pipeline.pin (pcfgs (F := F)) adm) EP p d)

/-- It splits into the handshakes' part and the staged calls'. -/
theorem u₀_split : (ownU (u₀ (F := F)) : sProp 𝕄) ⊢ iprop(BI.own (EH (initOf (K (F := F)).hsCells (K (F := F)).hsToks)) ∗ BI.own (EP uP)) :=
  BI.own_op_elim ((uEmb (nD := nD) (sig := sig) (Ix := HIx 1) (Val := Elt F) (Name := ℕ) (U := UU) (Lvl := ℕ)).toEmb.op_of_mem
    (Prod.mk_mem_op (URA.mem_op_one _) (URA.mem_one_op _)))

/-- The staged calls' part funds the rounds of both. -/
theorem fund : (BI.own ((EP : Emb UP 𝕄) uP) : sProp 𝕄)
    ⊢ |==> iprop((bigSep Finset.univ fun d : Dev nD => bigSep Finset.univ fun p : Fin 2 => cellsGhost (Pipeline.pin (pcfgs (F := F)) adm) EP p d)
      ∗ (bigSep Finset.univ fun d : Dev nD => bigSep Finset.univ fun p : Fin 2 => toksInit (Pipeline.pin (pcfgs (F := F)) adm) EP p d)) :=
  Pipeline.fund_ghost (Pipeline.pin (pcfgs (F := F)) adm) EP cellOf_inj

/-- The launch element gives the handshakes and the rounds. -/
theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = BI.emp :=
    (bigSep_congr fun _ _ => bigSep_univ_of_subsingleton (0 : Fin 1)).trans (bigSep_emp_const _)
  rw [e]
  iintro Hu
  ihave H := u₀_split $$ Hu
  icases H with ⟨HH, HP⟩
  imod fund $$ HP with ⟨Hg, Ht⟩
  imodintro
  isplitl [HH]; · iexact HH
  isplitl [Hg Ht]
  · rw [bigSep_sep']; isplitl [Hg] <;> iassumption
  iempintro

/-! ## The unscoped buffers through @main -/

/-- The device arrays that @main's steps touch, and its two reshapes. -/
abbrev i' : DevRef τ sig := Proc.devRef .tc (main_arg0 : Ref sig .tc)
abbrev x' : DevRef τ sig := Proc.devRef .tc (main_arg5 : Ref sig .tc)
abbrev o' : DevRef τ sig := Proc.devRef .tc (main_v0 : Ref sig .tc)
abbrev p' : DevRef τ sig := Proc.devRef .tc (main_v1_0 : Ref sig .tc)
abbrev t' : DevRef τ sig := Proc.devRef .tc (main_v1_1 : Ref sig .tc)
abbrev r' : DevRef τ sig := Proc.devRef .tc (main_v3 : Ref sig .tc)
abbrev opL : HloOp τ sig (Elt F) := StableHlo.reshape main_arg3 main_v2 (rfl : (.f32 : EltTy) = .f32) shapeCasts_S_S1
abbrev opR : HloOp τ sig (Elt F) := StableHlo.reshape main_v3 main_v4 (rfl : (.f32 : EltTy) = .f32) shapeCasts_S1x1_S_

/-- Valuations of every device, as contents of the TensorCore's buffers. -/
abbrev vals (W : Dev nD → Valuation τ sig (Elt F)) : Vals F := fun c b => W c (Proc.devRef .tc b)

/-- What the buffers hold at launch; after the gather; after the first pipeline; after the reshape of the added loss; after the
    second pipeline; at the end. -/
def W0 (c : Dev nD) : Valuation τ sig (Elt F) := fun b => m (c, b)
/-- What the arrays hold after the gather, the softmax stage, the first reshape, the loss stage and the last reshape. -/
def W1 (c : Dev nD) : Valuation τ sig (Elt F) := Function.update (W0 m c) o' (gath m c)
def W2 (c : Dev nD) : Valuation τ sig (Elt F) := Function.update (Function.update (W1 m c) p' (outP (vals (W1 m)) c)) t' (outT (vals (W1 m)) c)
def W3 (c : Dev nD) : Valuation τ sig (Elt F) := (opL (F := F)).result (W2 m c)
def W4 (c : Dev nD) : Valuation τ sig (Elt F) := Function.update (W3 m c) r' (outR (vals (W3 m)) c)
def W5 (c : Dev nD) : Valuation τ sig (Elt F) := (opR (F := F)).result (W4 m c)

/-- The unscoped buffers of the TensorCore. -/
def ucRefs : Finset (DevRef τ sig) := (tcRefs τ sig).filter fun b => ¬ b.isScoped
/-- The three the gather uses. -/
def S3 : Finset (DevRef τ sig) := {i', x', o'}
/-- The gather's three arrays are among those that @main holds. -/
theorem S3_sub : S3 ⊆ ucRefs := by decide

omit [FloatOps F] in
/-- The arrays held one by one are the arrays held as a set. -/
theorem unscoped_held (d : Dev nD) (W : Dev nD → Valuation τ sig (Elt F)) :
    (unscopedBufs d (vals W d) : sProp 𝕄) = held (T d) ucRefs (W d) := by
  unfold unscopedBufs held ucRefs tcRefs
  rw [Finset.filter_map, bigSep_map]
  rfl

omit [FloatOps F] in
/-- So it is with what a staged call is given. -/
theorem regSt_held (d : Dev nD) (W : Dev nD → Valuation τ sig (Elt F)) :
    regSt d (vals W) = iprop(held (SparseCore.T d) ucRefs (W d) ∗ owesT (F := F) d) := by
  unfold regSt; rw [unscoped_held d W]

omit [FloatOps F] in
/-- At launch the arrays hold the launch memory. -/
theorem launch_held (d : Dev nD) : (unscopedBufs d (fun b => m ((SparseCore.T d).loc b)) : sProp 𝕄) = held (SparseCore.T d) ucRefs (W0 m d) := by
  unfold unscopedBufs held ucRefs tcRefs
  rw [Finset.filter_map, bigSep_map]
  rfl

omit [FloatOps F] in
/-- The gather's three arrays, held as a set, are the three held one by one. -/
theorem held_S3 (d : Dev nD) (W : Valuation τ sig (Elt F)) :
    (held (T d) ucRefs W : sProp 𝕄)
      = iprop(((iLoc d ↦{fullShare} W i') ∗ (xLoc d ↦{fullShare} W x') ∗ (oLoc d ↦{fullShare} W o')) ∗ held (T d) (ucRefs \ S3) W) := by
  rw [held_sub_split (T d) S3_sub]
  congr 1
  unfold held S3
  rw [SparseCore.bigSep_insert' (by decide), SparseCore.bigSep_insert' (by decide), bigSep_singleton]

/-- After the gather: the three buffers back, the rest as they were. -/
theorem held_W1 (d : Dev nD) : (held (T d) ucRefs (W1 m d) : sProp 𝕄)
    = iprop((iPts m d ∗ xPts m d ∗ oPts d (gath m d)) ∗ held (T d) (ucRefs \ S3) (W0 m d)) := by
  rw [held_S3]
  rw [show W1 m d i' = m (iLoc d) from Function.update_of_ne (show i' ≠ o' by decide) _ _,
    show W1 m d x' = m (xLoc d) from Function.update_of_ne (show x' ≠ o' by decide) _ _,
    show W1 m d o' = gath m d from Function.update_self _ _ _,
    held_congr (T d) (V := W1 m d) (V' := W0 m d) fun b hb => Function.update_of_ne (fun h : b = o' => by
      subst h; exact (Finset.mem_sdiff.mp hb).2 (by decide)) _ _]

/-- Different references name different arrays. -/
theorem devRef_ne {a b : Ref sig .tc} (h : a ≠ b) : (Proc.devRef .tc a : DevRef τ sig) ≠ Proc.devRef .tc b := StableHlo.devRef_ne_of_ne h

/-- After the softmax stage: its predictions, -/
theorem W2_p (c : Dev nD) : vals (W2 m) c main_v1_0 = outP (vals (W1 m)) c :=
  (Function.update_of_ne (devRef_ne (by decide)) _ _).trans (Function.update_self _ _ _)
/-- its second dot products, -/
theorem W2_t (c : Dev nD) : vals (W2 m) c main_v1_1 = outT (vals (W1 m)) c := Function.update_self _ _ _
/-- and every other array as it was. -/
theorem W2_ne (c : Dev nD) (b : Ref sig .tc) (hp : b ≠ main_v1_0) (ht : b ≠ main_v1_1) : vals (W2 m) c b = vals (W1 m) c b :=
  (Function.update_of_ne (devRef_ne ht) _ _).trans (Function.update_of_ne (devRef_ne hp) _ _)
/-- After the loss stage: the loss, -/
theorem W4_r (c : Dev nD) : vals (W4 m) c main_v3 = outR (vals (W3 m)) c := Function.update_self _ _ _
/-- and every other array as it was. -/
theorem W4_ne (c : Dev nD) (b : Ref sig .tc) (h : b ≠ main_v3) : vals (W4 m) c b = vals (W3 m) c b :=
  Function.update_of_ne (devRef_ne h) _ _

/-- The reshapes touch only arrays that @main holds. -/
theorem opL_sub : (opL (F := F)).bufs ⊆ ucRefs := by
  show ({Proc.devRef .tc main_arg3, Proc.devRef .tc main_v2} : Finset (DevRef τ sig)) ⊆ ucRefs; decide
theorem opR_sub : (opR (F := F)).bufs ⊆ ucRefs := by
  show ({Proc.devRef .tc main_v3, Proc.devRef .tc main_v4} : Finset (DevRef τ sig)) ⊆ ucRefs; decide

/-! ## What a TensorCore owes between the calls -/

/-- The TensorCore's handshake state after the gather owes nothing. -/
theorem tcSt_one (d : Dev nD) : ∃ R : sProp 𝕄, (K (F := F)).tcSt EH d 1 = iprop(owesT (F := F) d ∗ R) := by
  unfold SparseCore.Cfg.tcSt owesT
  rw [(K (F := F)).Otc_end d le_rfl]
  exact ⟨_, rfl⟩

/-! ## One region of @main -/

/-- A staged call, run from @main, takes the arrays from what it is given to what it leaves. -/
theorem reg_step {pd : (p : Fin 2) → (c : Dev nD) → Pipeline.Dat τ (Elt F) (HIx 1) ℕ UU ℕ (Pipeline.pin (pcfgs (F := F)) adm p) c} {p : Fin 2}
    (R : Pipeline.RegionSeg (pcfgs (F := F)) adm pd none defs₀ 𝒱₀ (K (F := F)).L (K (F := F)).lev p) (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ cellsGhost (Pipeline.pin (pcfgs (F := F)) adm) EP p d ∗ toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  refine BIBase.Entails.trans ?_ ((K (F := F)).wp_liftProg (D (F := F)) 𝒱 (SparseCore.T d) Set.univ none
    (.op (.customCall (Pipeline.entry p) ()) .ret) Q)
  refine BIBase.Entails.trans ?_ (Pipeline.RegionSeg.wp (pcfgs (F := F)) adm pd none cellOf_inj EP defs₀ 𝒱₀ (K (F := F)).L (K (F := F)).lev R d none
    (fun _ h => nomatch h) .ret Q)
  iintro ⟨Hk, H⟩
  isplitl [Hk]
  · iintro Hp; rw [wp_ret]; imodintro; iapply Hk; iexact Hp
  iexact H

/-! ## @main -/

/-- What @main ends with beside its handshakes: every unscoped buffer at its last contents. -/
abbrev fin (d : Dev nD) : sProp 𝕄 := unscopedBufs d (vals (W5 m) d)

/-- The two kinds of ghost state, pipeline by pipeline. -/
theorem ghosts_eq (d : Dev nD) : (ghosts d : sProp 𝕄)
    = iprop((cellsGhost (Pipeline.pin (pcfgs (F := F)) adm) EP 0 d ∗ cellsGhost (Pipeline.pin (pcfgs (F := F)) adm) EP 1 d)
      ∗ (toksInit (Pipeline.pin (pcfgs (F := F)) adm) EP 0 d ∗ toksInit (Pipeline.pin (pcfgs (F := F)) adm) EP 1 d)) := by
  have e : (Finset.univ : Finset (Fin 2)) = {0, 1} := by decide
  unfold ghosts
  rw [e, SparseCore.bigSep_insert' (by decide), bigSep_singleton, SparseCore.bigSep_insert' (by decide), bigSep_singleton]

/-- The first pipeline's call: from the unscoped buffers before it to those after it. -/
theorem step1 (d : Dev nD) (Q : PUnit → sProp 𝕄) :
    iprop((iprop(boundary (SparseCore.T d) ∗ regSt d (vals (W2 m))) -∗ Q ⟨⟩) ∗ boundary (SparseCore.T d) ∗ regSt d (vals (W1 m))
        ∗ levAts (K (F := F)).L (K (F := F)).lev
        ∗ cellsGhost (Pipeline.pin (pcfgs (F := F)) adm) EP 0 d ∗ toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q :=
  reg_step (reg1 (vals (W1 m)) (vals (W2 m)) (W2_p m) (W2_t m) (W2_ne m)) d Q

/-- The second pipeline's call: from the unscoped buffers before it to those after it. -/
theorem step2 (d : Dev nD) (Q : PUnit → sProp 𝕄) :
    iprop((iprop(boundary (SparseCore.T d) ∗ regSt d (vals (W4 m))) -∗ Q ⟨⟩) ∗ boundary (SparseCore.T d) ∗ regSt d (vals (W3 m))
        ∗ levAts (K (F := F)).L (K (F := F)).lev
        ∗ cellsGhost (Pipeline.pin (pcfgs (F := F)) adm) EP 1 d ∗ toksInit (Pipeline.pin (pcfgs (F := F)) adm) EP 1 d)
      ⊢ wp frame (wpE ((K (F := F)).defs (D (F := F))) 𝒱 (SparseCore.T d) none) Set.univ
          (Prog.lift (.customCall (SparseCore.inner (Pipeline.entry 1)) ())) Q :=
  reg_step (reg2 (vals (W3 m)) (vals (W4 m)) (W4_r m) (W4_ne m)) d Q

set_option backward.isDefEq.respectTransparency false in
/-- @main runs: gather, softmax stage, reshape, loss stage, reshape. -/
theorem hmain (κ : GSem nD τ sig → ℕ) (d : Dev nD) :
    iprop((K (F := F)).ctx EH (P m) κ ∗ (K (F := F)).tcSt EH d 0 ∗ (K (F := F)).tcRes m ρ d ∗ ghosts d)
      ⊢ wp frame (wpE ((K (F := F)).defs (D (F := F))) 𝒱 (SparseCore.T d) none) Set.univ (main d)
        fun _ => iprop((K (F := F)).tcSt EH d 1 ∗ fin m d ∗ (K (F := F)).tcEnd d) := by
  obtain ⟨R, hR⟩ := tcSt_one (F := F) d
  unfold SparseCore.Cfg.tcRes SparseCore.Cfg.tcEnd fin
  rw [launch_held m d, held_S3, ghosts_eq,
    unscoped_held d (W5 m)]
  iintro ⟨#Hctx, Hst, ⟨Hb, ⟨⟨Hi, Hx, Ho⟩, Hrest⟩, Hs, _⟩, ⟨Hg0, Hg1⟩, ⟨Ht0, Ht1⟩⟩
  ihave #Hlev := ((K (F := F)).ctx_levAts (EH := EH) (P := P m) κ) $$ Hctx
  rw [main, wp_bind]
  iapply ((K (F := F)).wp_run (D (F := F)) 𝒱 (EH := EH) (P := P m) κ d 0)
  rw [st0_eq m d, dn0_eq m d]
  isplitr; · iexact Hctx
  isplitl [Hst]; · iexact Hst
  isplitl [Hi Hx Ho]
  · isplitl [Hi]; · iexact Hi
    isplitl [Hx]; · iexact Hx
    iexact Ho
  iintro ⟨Hst, Hi, Hx, Ho⟩
  ihave Hu : held (T d) ucRefs (W1 m d) $$ [Hi Hx Ho Hrest]
  · rw [held_W1 m d]
    isplitr [Hrest]
    · isplitl [Hi]; · iexact Hi
      isplitl [Hx] <;> iassumption
    iexact Hrest
  ihave Hst : iprop(owesT (F := F) d ∗ R) $$ [Hst]
  · rw [← hR]; iexact Hst
  icases Hst with ⟨HO, HR⟩
  rw [wp_bind]
  iapply (step1 m d)
  isplitr [Hb Hu HO Hg0 Ht0]
  rotate_left
  · isplitl [Hb]; · iexact Hb
    isplitl [Hu HO]
    · rw [regSt_held]
      isplitl [Hu]; · iexact Hu
      iexact HO
    isplitr; · iexact Hlev
    isplitl [Hg0] <;> iassumption
  iintro ⟨Hb, Hst⟩
  ihave Hst : iprop(held (SparseCore.T d) ucRefs (W2 m d) ∗ owesT (F := F) d) $$ [Hst]
  · rw [← regSt_held]; iexact Hst
  icases Hst with ⟨Hu, HO⟩
  rw [wp_bind]
  iapply (wp_hlo_within 𝒱 (SparseCore.T d) none Set.univ (op := opL (F := F)) (S := ucRefs) opL_sub (V := W2 m d)) $$ [Hb Hu]
  · isplitl [Hb] <;> iassumption
  iintro ⟨Hb, Hu⟩
  rw [wp_ret]; imodintro
  rw [wp_bind]
  iapply (step2 m d)
  isplitr [Hb Hu HO Hg1 Ht1]
  rotate_left
  · isplitl [Hb]; · iexact Hb
    isplitl [Hu HO]
    · rw [regSt_held]
      isplitl [Hu]; · iexact Hu
      iexact HO
    isplitr; · iexact Hlev
    isplitl [Hg1] <;> iassumption
  iintro ⟨Hb, Hst⟩
  ihave Hst : iprop(held (SparseCore.T d) ucRefs (W4 m d) ∗ owesT (F := F) d) $$ [Hst]
  · rw [← regSt_held]; iexact Hst
  icases Hst with ⟨Hu, HO⟩
  rw [wp_bind]
  iapply (wp_hlo_within 𝒱 (SparseCore.T d) none Set.univ (op := opR (F := F)) (S := ucRefs) opR_sub (V := W4 m d)) $$ [Hb Hu]
  · isplitl [Hb] <;> iassumption
  iintro ⟨Hb, Hu⟩
  rw [wp_ret]; imodintro
  rw [show (Pure.pure ⟨⟩ : Prog _ PUnit) = .ret ⟨⟩ from rfl, wp_ret]; imodintro
  rw [hR]
  isplitl [HO HR]
  · isplitl [HO]
    · iexact HO
    iexact HR
  isplitl [Hu]; · iexact Hu
  isplitl [Hb] <;> iassumption

/-! ## The program's run -/

/-- Every unscoped buffer holds its last contents. -/
def atEnd (d : Dev nD) (s' : Phys nD τ sig (Elt F)) : Prop :=
  ∀ b : { b : Ref sig .tc // ¬ (Proc.devRef (τ := τ) .tc b).isScoped }, s'.mem.mem ((SparseCore.T d).loc b.1) = vals (W5 m) d b.1

/-- What @main ends with is what the final memory holds. -/
theorem hfin (d : Dev nD) (s' : Phys nD τ sig (Elt F)) : iprop(fin m d ∗ SI s') ⊢ (⌜atEnd m d s'⌝ : sProp 𝕄) := by
  unfold atEnd
  refine BIBase.Entails.trans (forall_intro fun b => ?_) pure_forall.2
  unfold fin unscopedBufs
  refine (sep_mono_left (bigSep_elim (i := b.1) (by simpa using b.2))).trans ?_
  iintro ⟨H, HSI⟩
  ihave %h := (SI_pointsTo_agree (st := s') (ℓ := (SparseCore.T d).loc b.1) (I := Finset.univ) (q := fullShare) (f := vals (W5 m) d b.1)) $$ [HSI H]
  · isplitl [HSI] <;> iassumption
  ipureintro
  exact funext fun i => h i (Finset.mem_univ i)

/-- From launch memory `m` whose row numbers name rows of the table, every run of the program ends with every unscoped buffer
    at its last contents and every semaphore at zero. -/
theorem run_all [∀ e, Nonempty (Elt F e)] (hpre : PreOK m) :
    θ_run (defs (F := F)) (threads (F := F)) ⟨m, fun _ => 0, ρ⟩ fun r => (∀ d : Dev nD, ∀ b : { b : Ref sig .tc // ¬ (Proc.devRef (τ := τ) .tc b).isScoped },
      r.2.mem ((SparseCore.T d).loc b.1) = vals (W5 m) d b.1) ∧ r.2.sem = fun _ => 0 :=
  haveI := P_storable m
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main ghosts (fin m) u₀ (sep_elim_left.trans (hu₀ m)) (hmain m ρ) (atEnd m) (hfin m)
    (fun r => (∀ d : Dev nD, ∀ b : { b : Ref sig .tc // ¬ (Proc.devRef (τ := τ) .tc b).isScoped },
      r.2.mem ((SparseCore.T d).loc b.1) = vals (W5 m) d b.1) ∧ r.2.sem = fun _ => 0) (fun _ h hz => ⟨h, hz⟩)

end Cert.Proof.KI

end
-- ==== Proof.KIEnd.lean ====
/-
  What the run leaves, in the launch memory's terms: the arguments as they were and the result at `lossOf`, the second pipeline's
  steps applied to the two half blocks of logits and of gathered rows.

-/
module

public import proofs.«01_k».proof.Proof.KIMain

@[expose] public section

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- Row `i` of half `t` of the 4096 rows. -/
def row (t : Fin 2) (i : Fin 2048) : Fin 4096 := ⟨2048 * t.val + i.val, by have := t.isLt; have := i.isLt; omega⟩

/-- Half `t` of the logits and of the gathered rows. -/
def xs (d : Dev nD) (t : Fin 2) : Vec F S2048x128 .f32 := fun j => m ((SparseCore.T d).loc main_arg1) (ix2 (row t (j 0)) (j 1))
/-- The table's rows that the indices of half `t` name. -/
def gs (d : Dev nD) (t : Fin 2) : Vec F S2048x128 .f32 := fun j => gath m d (ix2 (row t (j 0)) (j 1))
/-- The first loss. -/
def lossIn (d : Dev nD) : Elt F .f32 := m ((SparseCore.T d).loc main_arg3) (fun a => a.elim0)

/-- The program's result. -/
def lossOf (d : Dev nD) : Elt F .f32 :=
  k2_pay2 (lossIn m d) (k2_pay1 (gs m d 1) (k1_pay2 (xs m d 1)) (k1_pay3 (xs m d 1))
    (k2_pay1 (gs m d 0) (k1_pay2 (xs m d 0)) (k1_pay3 (xs m d 0)) acc0))

/-! ## A block at an index -/

/-- Step `t` of the loss stage takes block `t` of the gathered rows. -/
theorem idx2_1 (t : Fin cfg2.N) : win2_1.index t 0 = t.val ∧ win2_1.index t 1 = 0 := by rcases fin_N2 t with rfl | rfl <;> decide

/-- Block `t` of the logits, at the two points. -/
theorem blkX_eq (V : Vals F) (c : Dev nD) (t : Fin cfg1.N) (t' : Fin 2) (ht : t.val = t'.val) (j : S2048x128.Idx) :
    blkX V c t j = V c main_arg1 (ix2 (row t' (j 0)) (j 1)) := by
  show ((cfg1.win 0).blk t).view.read (Elt F) (V c main_arg1) j = _
  rw [View.read_apply]
  refine congrArg (V c main_arg1) (funext fun a => Fin.ext ?_)
  match a with
  | 0 => show win1_0.index t 0 * 2048 + 1 * (j 0).val = 2048 * t'.val + (j 0).val; rw [(idx1_0 t).1]; omega
  | 1 => show win1_0.index t 1 * 128 + 1 * (j 1).val = (j 1).val; rw [(idx1_0 t).2]; omega

/-- Block `t` of the gathered rows. -/
theorem blkG_eq (V : Vals F) (c : Dev nD) (t : Fin cfg2.N) (t' : Fin 2) (ht : t.val = t'.val) (j : S2048x128.Idx) :
    blkG V c t j = V c main_v0 (ix2 (row t' (j 0)) (j 1)) := by
  show ((cfg2.win 1).blk t).view.read (Elt F) (V c main_v0) j = _
  rw [View.read_apply]
  refine congrArg (V c main_v0) (funext fun a => Fin.ext ?_)
  match a with
  | 0 => show win2_1.index t 0 * 2048 + 1 * (j 0).val = 2048 * t'.val + (j 0).val; rw [(idx2_1 t).1]; omega
  | 1 => show win2_1.index t 1 * 128 + 1 * (j 1).val = (j 1).val; rw [(idx2_1 t).2]; omega

/-! ## The buffers before the second pipeline, and at the end -/

/-- The first reshape changes no other array, -/
theorem W3_ne (c : Dev nD) (b : Ref sig .tc) (h : b ≠ main_v2) : vals (W3 m) c b = vals (W2 m) c b :=
  StableHlo.reshape_result_ne main_arg3 main_v2 _ _ _ _ (W2 m c) h
/-- nor does the last, -/
theorem W5_ne (c : Dev nD) (b : Ref sig .tc) (h : b ≠ main_v4) : vals (W5 m) c b = vals (W4 m) c b :=
  StableHlo.reshape_result_ne main_v3 main_v4 _ _ _ _ (W4 m c) h
/-- nor does the gather. -/
theorem W1_ne (c : Dev nD) (b : Ref sig .tc) (h : b ≠ main_v0) : vals (W1 m) c b = m ((SparseCore.T c).loc b) :=
  Function.update_of_ne (devRef_ne h) _ _

/-- A buffer nothing of @main writes ends as it was. -/
theorem W5_arg (c : Dev nD) (b : Ref sig .tc) (h0 : b ≠ main_v0) (h1 : b ≠ main_v1_0) (h2 : b ≠ main_v1_1) (h3 : b ≠ main_v2) (h4 : b ≠ main_v3)
    (h5 : b ≠ main_v4) : vals (W5 m) c b = m ((SparseCore.T c).loc b) := by
  rw [W5_ne m c b h5, W4_ne m c b h4, W3_ne m c b h3, W2_ne m c b h1 h2, W1_ne m c b h0]

/-- Before the loss stage: the gathered rows, -/
theorem W3_v0 (c : Dev nD) : vals (W3 m) c main_v0 = gath m c := by
  rw [W3_ne m c _ (by decide), W2_ne m c _ (by decide) (by decide)]; exact Function.update_self _ _ _
/-- the predictions -/
theorem W3_v1_0 (c : Dev nD) : vals (W3 m) c main_v1_0 = outP (vals (W1 m)) c := by rw [W3_ne m c _ (by decide), W2_p]
/-- and the second dot products. -/
theorem W3_v1_1 (c : Dev nD) : vals (W3 m) c main_v1_1 = outT (vals (W1 m)) c := by rw [W3_ne m c _ (by decide), W2_t]

/-- The softmax stage's block of logits is its half's. -/
theorem blkX_W1 (c : Dev nD) (t : Fin cfg1.N) (t' : Fin 2) (ht : t.val = t'.val) : blkX (vals (W1 m)) c t = xs m c t' :=
  funext fun j => by rw [blkX_eq _ c t t' ht, W1_ne m c _ (by decide)]; rfl
/-- The loss stage's block of gathered rows is its half's, -/
theorem blkG_W3 (c : Dev nD) (t : Fin cfg2.N) (t' : Fin 2) (ht : t.val = t'.val) : blkG (vals (W3 m)) c t = gs m c t' :=
  funext fun j => by rw [blkG_eq _ c t t' ht, W3_v0]; rfl
/-- The second pipeline stages the very blocks the first wrote. -/
theorem blkP_W3 (c : Dev nD) (t : Fin cfg2.N) (t' : Fin 2) (ht : t.val = t'.val) : blkP (vals (W3 m)) c t = k1_pay2 (xs m c t') := by
  show ((cfg1.win 1).blk t).view.read (Elt F) (vals (W3 m) c main_v1_0) = _
  rw [W3_v1_0, read_outP, blkX_W1 m c t t' ht]
/-- and its second dot products are those computed from the half's logits. -/
theorem blkT_W3 (c : Dev nD) (t : Fin cfg2.N) (t' : Fin 2) (ht : t.val = t'.val) : blkT (vals (W3 m)) c t = k1_pay3 (xs m c t') := by
  show ((cfg1.win 2).blk t).view.read (Elt F) (vals (W3 m) c main_v1_1) = _
  rw [W3_v1_1, read_outT, blkX_W1 m c t t' ht]
/-- The first loss reaches the second pipeline. -/
theorem blkL_W3 (c : Dev nD) : blkL (vals (W3 m)) c (ix1 0) = lossIn m c := by
  have e : vals (W3 m) c main_v2 = fun i => shapeCast S1 (vals (W2 m) c main_arg3) shapeCasts_S_S1 i :=
    StableHlo.reshape_result main_arg3 main_v2 _ _ _ _ (W2 m c)
  show ((cfg2.win 0).blk t2_0).view.read (Elt F) (vals (W3 m) c main_v2) (ix1 0) = _
  rw [View.read_apply, e, W2_ne m c _ (by decide) (by decide), W1_ne m c _ (by decide)]
  exact congrArg (m ((SparseCore.T c).loc main_arg3)) (funext fun a => a.elim0)

/-- So the loss it writes is `lossOf`. -/
theorem loss_W3 (c : Dev nD) : loss (vals (W3 m)) c = lossOf m c := by
  unfold loss acc1 lossOf
  rw [blkL_W3, blkG_W3 m c t2_0 0 rfl, blkG_W3 m c t2_1 1 rfl, blkP_W3 m c t2_0 0 rfl, blkP_W3 m c t2_1 1 rfl, blkT_W3 m c t2_0 0 rfl,
    blkT_W3 m c t2_1 1 rfl]

/-- The result. -/
theorem W5_result (c : Dev nD) : vals (W5 m) c main_v4 = fun _ => lossOf m c := by
  have e : vals (W5 m) c main_v4 = fun i => shapeCast S_ (vals (W4 m) c main_v3) shapeCasts_S1x1_S_ i :=
    StableHlo.reshape_result main_v3 main_v4 _ _ _ _ (W4 m c)
  rw [e, W4_r, outR_eq, loss_W3]
  rfl

/-! ## The run, in the launch memory's terms -/

/-- Every run from such a memory ends with the result at `lossOf`, the arguments as they were and every semaphore at zero. -/
theorem run [∀ e, Nonempty (Elt F e)] (hpre : PreOK m) :
    θ_run (defs (F := F)) (threads (F := F)) ⟨m, fun _ => 0, ρ⟩ fun r => (∀ c : Dev nD,
      r.2.mem ((SparseCore.T c).loc main_v4) = (fun _ => lossOf m c)
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)) ∧ r.2.sem = fun _ => 0 :=
  (θ_run (defs (F := F)) (threads (F := F)) ⟨m, fun _ => 0, ρ⟩).mono (fun r h => ⟨fun c =>
    have g (b : Ref sig .tc) (hb : ¬ (Proc.devRef (τ := τ) .tc b).isScoped) : r.2.mem ((SparseCore.T c).loc b) = vals (W5 m) c b := h.1 c ⟨b, hb⟩
    ⟨(g main_v4 (by decide)).trans (W5_result m c),
      (g main_arg0 (by decide)).trans (W5_arg m c _ (by decide) (by decide) (by decide) (by decide) (by decide) (by decide)),
      (g main_arg1 (by decide)).trans (W5_arg m c _ (by decide) (by decide) (by decide) (by decide) (by decide) (by decide)),
      (g main_arg2 (by decide)).trans (W5_arg m c _ (by decide) (by decide) (by decide) (by decide) (by decide) (by decide)),
      (g main_arg3 (by decide)).trans (W5_arg m c _ (by decide) (by decide) (by decide) (by decide) (by decide) (by decide)),
      (g main_arg4 (by decide)).trans (W5_arg m c _ (by decide) (by decide) (by decide) (by decide) (by decide) (by decide)),
      (g main_arg5 (by decide)).trans (W5_arg m c _ (by decide) (by decide) (by decide) (by decide) (by decide) (by decide))⟩, h.2⟩)
    (run_all m ρ hpre)

end Cert.Proof.KI

end
-- ==== Proof.Words.lean ====
/-
  All-reduces of one-bit words by `and`, and what the precondition says of the row numbers.
-/
module

public import proofs.«01_k».proof.Proof.Gen.Pre_rows_in_table
public import Idealize.ShloMosaic.Lib.Pointwise

@[expose] public section

noncomputable section

namespace Cert.Proof.Words

open Idealize.ShloMosaic Idealize.SL.Sem

/-- A fold by `and` from one over words that are all one is one. -/
theorem foldl_and_one {α : Type} (f : α → BitVec 1) : ∀ l : List α, (∀ a ∈ l, f a = 1#1) → l.foldl (fun r a => IntOp.andi r (f a)) 1#1 = 1#1
  | [], _ => rfl
  | a :: l, h => by
    rw [List.foldl_cons, h a (List.mem_cons_self ..)]
    exact foldl_and_one f l fun b hb => h b (List.mem_cons_of_mem _ hb)

/-- If such a fold is one, so is what it starts from and every word of it. -/
theorem of_foldl_and {α : Type} (f : α → BitVec 1) : ∀ (l : List α) (i : BitVec 1), l.foldl (fun r a => IntOp.andi r (f a)) i = 1#1 →
    i = 1#1 ∧ ∀ a ∈ l, f a = 1#1
  | [], i, h => ⟨h, fun _ ha => nomatch ha⟩
  | a :: l, i, h => by
    rw [List.foldl_cons] at h
    obtain ⟨h1, h2⟩ := of_foldl_and f l _ h
    have key : ∀ x y : BitVec 1, IntOp.andi x y = 1#1 → x = 1#1 ∧ y = 1#1 := by decide
    obtain ⟨hi, ha⟩ := key _ _ h1
    refine ⟨hi, fun b hb => ?_⟩
    rcases List.mem_cons.mp hb with rfl | hb
    · exact ha
    · exact h2 b hb

/-- An all-reduce of words that are all one, from one, is one. -/
theorem reduce_and_one {s t u : Shape} {axes : List (Fin s.rank)} (x : s.Idx → BitVec 1) (v : u.Idx → BitVec 1) (h : s.ReducesTo axes t) (hu : 0 < u.numel)
    (hx : ∀ i, x i = 1#1) (hv : ∀ i, v i = 1#1) (j : t.Idx) : Host.reduce IntOp.andi x v h hu j = 1#1 := by
  unfold Host.reduce
  rw [hv]
  exact foldl_and_one (fun n => x (s.rowMajor.symm n)) _ fun n _ => hx _

/-- If an all-reduce to one word is one, every word of it is. -/
theorem of_reduce_and {s t u : Shape} {axes : List (Fin s.rank)} (x : s.Idx → BitVec 1) (v : u.Idx → BitVec 1) (h : s.ReducesTo axes t) (hu : 0 < u.numel)
    (ht : ∀ a b : t.Idx, a = b) (j : t.Idx) (e : Host.reduce IntOp.andi x v h hu j = 1#1) (i : s.Idx) : x i = 1#1 := by
  unfold Host.reduce at e
  have := (of_foldl_and (fun n => x (s.rowMajor.symm n)) _ _ e).2 (s.rowMajor i)
    (List.mem_filter.mpr ⟨List.mem_finRange _, by simpa using ht _ _⟩)
  simpa using this

/-- A word that is at least 0 and below 1000000, read signed, is so read unsigned. -/
theorem toNat_lt_of_bounds (w : BitVec 32) (h : IntOp.andi (IntOp.cmpi .sge w 0#32) (IntOp.cmpi .slt w 1000000#32) = 1#1) : w.toNat < 1000000 := by
  have key : ∀ a b : Bool, IntOp.andi (BitVec.ofBool a) (BitVec.ofBool b) = 1#1 → a = true ∧ b = true := by decide
  obtain ⟨h1, h2⟩ := key _ _ h
  simp only [BitVec.sle_eq_decide, BitVec.slt_eq_decide, decide_eq_true_eq, BitVec.toInt_eq_toNat_cond, BitVec.toNat_ofNat, Nat.reducePow,
    Nat.reduceMod] at h1 h2
  omega

/-- A word below 1000000, read unsigned, is at least 0 and at most 999999, read signed. -/
theorem bounds_of_toNat_lt (w : BitVec 32) (h : w.toNat < 1000000) : IntOp.andi (IntOp.cmpi .sge w 0#32) (IntOp.cmpi .sle w 999999#32) = 1#1 := by
  have h1 : (0#32).sle w = true := by
    simp only [BitVec.sle_eq_decide, decide_eq_true_eq, BitVec.toInt_eq_toNat_cond, BitVec.toNat_ofNat, Nat.reducePow, Nat.reduceMod]; omega
  have h2 : w.sle 999999#32 = true := by
    simp only [BitVec.sle_eq_decide, decide_eq_true_eq, BitVec.toInt_eq_toNat_cond, BitVec.toNat_ofNat, Nat.reducePow, Nat.reduceMod]; omega
  show IntOp.andi (BitVec.ofBool ((0#32).sle w)) (BitVec.ofBool (w.sle 999999#32)) = 1#1
  rw [h1, h2]; rfl

/-- Such a word is not below 0. -/
theorem not_neg_of_toNat_lt (w : BitVec 32) (h : w.toNat < 1000000) : IntOp.cmpi .slt w 0#32 = 0#1 := by
  have h1 : w.slt 0#32 = false := by
    simp only [BitVec.slt_eq_decide, decide_eq_false_iff_not, BitVec.toInt_eq_toNat_cond, BitVec.toNat_ofNat, Nat.reducePow, Nat.reduceMod]; omega
  show BitVec.ofBool (w.slt 0#32) = 0#1
  rw [h1]; rfl

open Cert.Pre_rows_in_table in
/-- Where the precondition holds, every row number names a row of the table. -/
theorem rows_of_pre [Cert.Pre_rows_in_table.Facts] {F : FTy → Type} [FloatOps F] (a0 : IVec S4096 32) (a1 : FVec F S4096x128 .f32) (a2 : IVec S4096 32)
    (a3 a4 : FVec F S_ .f32) (a5 : FVec F S1000000x128 .f32) (h : fn a0 a1 a2 a3 a4 a5 = fun _ => 1#1) (j : S4096.Idx) :
    (a0 j).toNat < 1000000 := by
  unfold fn at h
  have e := of_reduce_and _ _ _ _ (fun a b => funext fun i => i.elim0) ix0 (congrFun h ix0) j
  exact toNat_lt_of_bounds (a0 j) e

end Cert.Proof.Words

end
-- ==== Proof.Ref.lean ====
/-
  The reference's composed term in four stages, each read at an index: the shifted exponentials, the clipped softmax, the rows taken
  from the table and the loss.
-/
module

public import proofs.«01_k».proof.Proof.Gen.ReferenceIdeal.Run
public import proofs.«01_k».proof.Proof.Words
public import Idealize.ShloMosaic.Lib.Pointwise
public import Idealize.ShloMosaic.Lib.Routing.Ops

@[expose] public section

noncomputable section

namespace Cert.Proof.R

open Cert.ReferenceIdeal Cert.ReferenceIdeal.Gen Cert.ReferenceIdeal.Value Idealize.ShloMosaic Idealize.ShloMosaic.TcCoe Idealize.SL.Sem

section
variable {F : FTy → Type} [FloatOps F]

/-- The exponentials of the logits less their row's greatest. -/
def refE (x : FVec F S4096x128 .f32) : FVec F S4096x128 .f32 :=
  Host.exp (subf x (broadcastInDim S4096x128 ![0, 1] bcast_S4096x1_S4096x128_0_1 (broadcastInDim S4096x1 ![0] bcast_S4096_S4096x1_0 (maximumf (broadcastInDim S4096 ![] bcast_S_S4096 (constant S_ .f32 0xFF800000#32)) (Host.reduce FloatOps.maximumf x (constant S_ .f32 0xFF800000#32) reducesTo_S4096x128_S4096_d1 h_S_)))))
/-- The softmax, clipped. -/
def refP (x : FVec F S4096x128 .f32) : FVec F S4096x128 .f32 :=
  minimumf (broadcastInDim S4096x128 ![] bcast_S_S4096x128 (id (constant S_ .f32 0x3F7FF972#32))) (maximumf (broadcastInDim S4096x128 ![] bcast_S_S4096x128 (id (constant S_ .f32 0x38D1B717#32))) (Host.divf (refE x) (broadcastInDim S4096x128 ![0, 1] bcast_S4096x1_S4096x128_0_1 (broadcastInDim S4096x1 ![0] bcast_S4096_S4096x1_0 (Host.reduceAdd (refE x) (constant S_ .f32 0x00000000#32) reducesTo_S4096x128_S4096_d1 h_S_)))))
/-- The row numbers, a negative one wrapped once. -/
def wrapped (idx : IVec S4096 32) : IVec S4096 32 :=
  select (cmpi .slt idx (broadcastInDim S4096 ![] bcast_S_S4096 (constantI S_ 32 0#32))) (addi idx (broadcastInDim S4096 ![] bcast_S_S4096 (constantI S_ 32 1000000#32))) idx
/-- The rows taken from the table. -/
def refG (tbl : FVec F S1000000x128 .f32) (idx : IVec S4096 32) : FVec F S4096x128 .f32 :=
  select (broadcastInDim S4096x128 ![0] bcast_S4096_S4096x128_0 (Host.reduce IntOp.andi (andi (cmpi .sge (broadcastInDim S4096x1 ![0] bcast_S4096_S4096x1_0 (wrapped idx)) (broadcastInDim S4096x1 ![] bcast_S_S4096x1 (constantI S_ 32 0#32))) (cmpi .sle (broadcastInDim S4096x1 ![0] bcast_S4096_S4096x1_0 (wrapped idx)) (broadcastInDim S4096x1 ![0, 1] bcast_S1x1_S4096x1_0_1 (broadcastInDim S1x1 ![1] bcast_S1_S1x1_1 (constantI S1 32 999999#32))))) (constantI S_ 1 1#1) reducesTo_S4096x1_S4096_d1 h_S_)) (Host.gather gather_S1000000x128_S4096x1_S4096x128_1_0_n_n_0_1_1128 tbl (broadcastInDim S4096x1 ![0] bcast_S4096_S4096x1_0 (wrapped idx))) (broadcastInDim S4096x128 ![] bcast_S_S4096x128 (constant S_ .f32 0x7FC00000#32))
/-- The loss. -/
def refO (a : FVec F S_ .f32) (p g : FVec F S4096x128 .f32) : FVec F S_ .f32 :=
  addf a (mulf (constant S_ .f32 0x40E00000#32) (Host.divf (Host.reduceAdd (Host.log (subf (broadcastInDim S4096 ![] bcast_S_S4096 (constant S_ .f32 0x3F800000#32)) (Host.reduceAdd (mulf (addf (mulf (broadcastInDim S4096x128 ![] bcast_S_S4096x128 (constant S_ .f32 0x3F666666#32)) g) (mulf (broadcastInDim S4096x128 ![] bcast_S_S4096x128 (constant S_ .f32 0x3DCCCCCD#32)) (Host.divf p (broadcastInDim S4096x128 ![0, 1] bcast_S4096x1_S4096x128_0_1 (broadcastInDim S4096x1 ![0] bcast_S4096_S4096x1_0 (Host.reduceAdd p (constant S_ .f32 0x00000000#32) reducesTo_S4096x128_S4096_d1 h_S_)))))) p) (constant S_ .f32 0x00000000#32) reducesTo_S4096x128_S4096_d1 h_S_))) (constant S_ .f32 0x00000000#32) reducesTo_S4096_S_d0 h_S_) (constant S_ .f32 0x45800000#32)))

set_option maxRecDepth 8192 in
/-- The reference's result is the four stages. -/
theorem res_eq (m : (ℓ : Loc nD τ sig) → Buf (Elt F) ℓ) (c : Dev nD) :
    res_main_v30 m c = refO (m ((c.tc : Thread nD τ).loc main_arg3)) (refP (m ((c.tc : Thread nD τ).loc main_arg1)))
      (refG (m ((c.tc : Thread nD τ).loc main_arg5)) (m ((c.tc : Thread nD τ).loc main_arg0))) := rfl

end

/-- The greatest of a row's logits, from the lowest value. -/
def top (x : FVec Ideal S4096x128 .f32) (r : Fin 4096) : EReal :=
  Finset.fold max (Ideal.ofBits FTy.f32 4286578688#32) (fun k => x (ix2 r k)) Finset.univ

/-- The exponentials of the softmax, at an index. -/
theorem refE_apply (x : FVec Ideal S4096x128 .f32) (r : Fin 4096) (l : Fin 128) :
    refE x (ix2 r l) = Ideal.exp (x (ix2 r l) - top x r) := by
  pointwise [refE]
  rw [max_eq_right]
  · rfl
  exact Finset.le_fold_max _ |>.mpr (Or.inl le_rfl)

/-- The clipped softmax at an index. -/
theorem refP_apply (x : FVec Ideal S4096x128 .f32) (r : Fin 4096) (l : Fin 128) :
    refP x (ix2 r l) = min (Ideal.ofBits FTy.f32 1065351538#32) (max (Ideal.ofBits FTy.f32 953267991#32)
      (Ideal.div (Ideal.exp (x (ix2 r l) - top x r)) (∑ k, Ideal.exp (x (ix2 r k) - top x r)))) := by
  pointwise [refP]
  simp only [refE_apply]
  rfl

/-- The loss, as a sum over the rows. -/
theorem refO_apply (a : FVec Ideal S_ .f32) (p g : FVec Ideal S4096x128 .f32) (j : S_.Idx) : refO a p g j = a j + Ideal.ofBits FTy.f32 1088421888#32 *
    Ideal.div (∑ r, Ideal.log (1 - ∑ l, (Ideal.ofBits FTy.f32 1063675494#32 * g (ix2 r l)
      + Ideal.ofBits FTy.f32 1036831949#32 * Ideal.div (p (ix2 r l)) (∑ k, p (ix2 r k))) * p (ix2 r l))) (Ideal.ofBits FTy.f32 1166016512#32) := by
  pointwise [refO]

/-- A row number that names a row is not wrapped. -/
theorem wrapped_of_lt (idx : IVec S4096 32) (h : ∀ j, (idx j).toNat < 1000000) : wrapped idx = idx := by
  funext j
  show (if IntOp.cmpi .slt (idx j) 0#32 = 1#1 then _ else idx j) = idx j
  rw [Words.not_neg_of_toNat_lt _ (h j), if_neg (by decide)]

/-- The row taken is the table's row of that number. -/
theorem refG_apply (tbl : FVec Ideal S1000000x128 .f32) (idx : IVec S4096 32) (h : ∀ j, (idx j).toNat < 1000000) (r : Fin 4096) (l : Fin 128) :
    refG tbl idx (ix2 r l) = tbl (ix2 ⟨(idx (ix1 r)).toNat, h _⟩ l) := by
  unfold refG
  rw [wrapped_of_lt idx h]
  show (if Host.reduce IntOp.andi _ _ _ _ _ = 1#1 then Host.gather _ _ _ _ else _) = _
  refine (if_pos (Words.reduce_and_one _ _ _ _ (fun i => ?_) (fun _ => rfl) _)).trans ?_
  · exact Words.bounds_of_toNat_lt (idx _) (h _)
  exact Routing.gather_row _ rfl rfl rfl rfl rfl tbl _ r l ⟨(idx (ix1 r)).toNat, h _⟩ (by
    show idx _ = BitVec.ofNat 32 (idx (ix1 r)).toNat
    rw [BitVec.ofNat_toNat, BitVec.setWidth_eq]
    exact congrArg idx (funext fun a => by match a with | 0 => rfl)) (by decide)

end Cert.Proof.R

end
-- ==== Proof.Loss.lean ====
/-
  The mathematics of the value claim: over the extended reals the kernel's loss, computed half by half with the two inner sums apart,
  is the reference's, whatever the logits, the table and the first loss hold. Only the clipped softmax need be a nonnegative real,
  which its two bounds make it.
-/
module

public import proofs.«01_k».proof.Proof.KIEnd
public import proofs.«01_k».proof.Proof.Ref

@[expose] public section

noncomputable section

namespace Cert.Proof.V

open Cert.KernelIdeal Cert.KernelIdeal.Gen Cert.Proof.KI Idealize.ShloMosaic Idealize.SL.Sem

/-! ## Extended reals -/

/-- A nonnegative real. -/
def NN (x : EReal) : Prop := ∃ r : ℝ, 0 ≤ r ∧ x = r

/-- A nonnegative real factor distributes over any two extended reals. -/
theorem mul_add' {c : EReal} (hc : NN c) (x y : EReal) : c * (x + y) = c * x + c * y := by
  obtain ⟨r, hr, rfl⟩ := hc; exact EReal.left_distrib_of_nonneg_of_ne_top (EReal.coe_nonneg.mpr hr) (EReal.coe_ne_top r) x y

/-- And over a sum of extended reals. -/
theorem mul_sum' {c : EReal} (hc : NN c) {α : Type} [DecidableEq α] (s : Finset α) (f : α → EReal) : c * ∑ a ∈ s, f a = ∑ a ∈ s, c * f a := by
  induction s using Finset.induction_on with
  | empty => simp
  | insert a s ha ih => rw [Finset.sum_insert ha, Finset.sum_insert ha, mul_add' hc, ih]

/-- A row's dot product of the mixed row with the predictions is the mix of the two dot products. -/
theorem mixed_dot {c d : EReal} (hc : NN c) (hd : NN d) (g q p : Fin 128 → EReal) (hp : ∀ l, NN (p l)) :
    ∑ l, (c * g l + d * q l) * p l = c * (∑ l, g l * p l) + d * ∑ l, q l * p l := by
  rw [mul_sum' hc, mul_sum' hd, ← Finset.sum_add_distrib]
  refine Finset.sum_congr rfl fun l _ => ?_
  rw [mul_comm _ (p l), mul_add' (hp l)]
  congr 1 <;> rw [mul_comm, mul_assoc]

/-- What lies between two nonnegative reals is one. -/
theorem nn_clip {lo hi : EReal} (hlo : NN lo) (hhi : NN hi) (x : EReal) : NN (min hi (max lo x)) := by
  obtain ⟨a, ha, rfl⟩ := hlo
  obtain ⟨b, hb, rfl⟩ := hhi
  have h0 : (0 : EReal) ≤ min (b : EReal) (max (a : EReal) x) :=
    le_min (EReal.coe_nonneg.mpr hb) (le_max_of_le_left (EReal.coe_nonneg.mpr ha))
  have h1 : min (b : EReal) (max (a : EReal) x) ≤ b := min_le_left _ _
  have ht : min (b : EReal) (max (a : EReal) x) ≠ ⊤ := ne_top_of_le_ne_top (EReal.coe_ne_top b) h1
  have hb' : min (b : EReal) (max (a : EReal) x) ≠ ⊥ := ne_bot_of_le_ne_bot EReal.zero_ne_bot h0
  exact ⟨_, EReal.toReal_nonneg h0, (EReal.coe_toReal ht hb').symm⟩

/-- A sum over 4096 rows is the sum over the first half and the sum over the second. -/
theorem sum_halves (f : Fin 4096 → EReal) : ∑ r, f r = (∑ x, f (row 0 x)) + ∑ x, f (row 1 x) := by
  rw [show (∑ r, f r) = ∑ r : Fin (2048 + 2048), f r from rfl, Fin.sum_univ_add]
  exact congrArg₂ (· + ·) (Finset.sum_congr rfl fun x _ => congrArg f (Fin.ext (show x.val = 2048 * 0 + x.val by omega)))
    (Finset.sum_congr rfl fun x _ => congrArg f (Fin.ext (show 2048 + x.val = 2048 * 1 + x.val by omega)))

/-! ## The constants -/

/-- The words of 0.9, of 0.1 and of the two bounds are nonnegative reals. -/
theorem nn_keep : NN (Ideal.ofBits .f32 1063675494#32) := by
  refine ⟨_, ?_, by simp [Ideal.ofBits, Ideal.ieee, -EReal.coe_mul]; rfl⟩
  norm_num
theorem nn_new : NN (Ideal.ofBits .f32 1036831949#32) := by
  refine ⟨_, ?_, by simp [Ideal.ofBits, Ideal.ieee, -EReal.coe_mul]; rfl⟩
  norm_num
theorem nn_lo : NN (Ideal.ofBits .f32 953267991#32) := by
  refine ⟨_, ?_, by simp [Ideal.ofBits, Ideal.ieee, -EReal.coe_mul]; rfl⟩
  norm_num
theorem nn_hi : NN (Ideal.ofBits .f32 1065351538#32) := by
  refine ⟨_, ?_, by simp [Ideal.ofBits, Ideal.ieee, -EReal.coe_mul]; rfl⟩
  norm_num

/-! ## The kernel's steps at an index -/

/-- A half's clipped softmax is the reference's at its rows. -/
theorem pay1_apply (x : FVec Ideal S2048x128 .f32) (X : FVec Ideal Cert.ReferenceIdeal.S4096x128 .f32) (t : Fin 2)
    (hx : ∀ r l, x (ix2 r l) = X (ix2 (row t r) l)) (r : Fin 2048) (l : Fin 128) : k1_pay1 (F := Ideal) x (ix2 r l) = R.refP (F := Ideal) X (ix2 (row t r) l) := by
  pointwise [k1_pay1]
  rw [R.refP_apply]
  unfold R.top
  simp only [hx]

/-- The narrowed predictions are the predictions. -/
theorem pay2_apply (x : FVec Ideal S2048x128 .f32) (r : Fin 2048) (l : Fin 128) : k1_pay2 (F := Ideal) x (ix2 r l) = k1_pay1 (F := Ideal) x (ix2 r l) := by
  pointwise [k1_pay2]

/-- The second dot product of a row: its normalised predictions with its predictions. -/
theorem pay3_apply (x : FVec Ideal S2048x128 .f32) (r : Fin 2048) :
    k1_pay3 (F := Ideal) x (ix3 0 0 r) = ∑ l, Ideal.div (k1_pay1 (F := Ideal) x (ix2 r l)) (∑ k, k1_pay1 (F := Ideal) x (ix2 r k)) * k1_pay1 (F := Ideal) x (ix2 r l) := by
  pointwise [k1_pay3]

/-- A step of the loss stage adds the logarithms of its rows. -/
theorem step_apply (g : FVec Ideal S2048x128 .f32) (p : FVec Ideal S2048x128 .bf16) (t : FVec Ideal S1x1x2048 .f32) (a : EReal) :
    k2_pay1 (F := Ideal) g p t a = a + ∑ r, Ideal.log (1 - (Ideal.ofBits .f32 1063675494#32 * (∑ l, g (ix2 r l) * p (ix2 r l))
      + Ideal.ofBits .f32 1036831949#32 * t (ix3 0 0 r))) := by
  pointwise [k2_pay1]

/-- The last step divides by the number of rows, scales, and adds the first loss. -/
theorem last_apply (a b : EReal) : k2_pay2 (F := Ideal) a b = a + Ideal.ofBits .f32 1088421888#32 * Ideal.div b (Ideal.ofBits .f32 1166016512#32) := by
  pointwise [k2_pay2]

/-- The running sum starts at zero. -/
theorem start_apply : (acc0 : Elt Ideal .f32) = (0 : EReal) := by
  pointwise

/-! ## The two losses -/

/-- One row's term, as the reference has it. -/
def term (P G : FVec Ideal Cert.ReferenceIdeal.S4096x128 .f32) (r : Fin 4096) : EReal :=
  Ideal.log (1 - ∑ l, (Ideal.ofBits .f32 1063675494#32 * G (ix2 r l)
    + Ideal.ofBits .f32 1036831949#32 * Ideal.div (P (ix2 r l)) (∑ k, P (ix2 r k))) * P (ix2 r l))

/-- One half's step adds its rows' terms. -/
theorem step_eq (x g : FVec Ideal S2048x128 .f32) (X G : FVec Ideal Cert.ReferenceIdeal.S4096x128 .f32) (t : Fin 2)
    (hx : ∀ r l, x (ix2 r l) = X (ix2 (row t r) l)) (hg : ∀ r l, g (ix2 r l) = G (ix2 (row t r) l)) (a : EReal) :
    k2_pay1 (F := Ideal) g (k1_pay2 (F := Ideal) x) (k1_pay3 (F := Ideal) x) a = a + ∑ r, term (R.refP X) G (row t r) := by
  rw [step_apply]
  congr 1
  refine Finset.sum_congr rfl fun r _ => ?_
  unfold term
  rw [mixed_dot nn_keep nn_new (fun l => G (ix2 (row t r) l)) _ (fun l => R.refP X (ix2 (row t r) l))
    fun l => by rw [R.refP_apply]; exact nn_clip nn_lo nn_hi _, pay3_apply]
  simp only [pay2_apply, pay1_apply x X t hx, hg]

/-- The kernel's loss is the reference's. -/
theorem loss_eq (m : (ℓ : Loc nD τ sig) → Buf (Elt Ideal) ℓ) (hpre : PreOK m) (c : Dev nD) (j : Cert.ReferenceIdeal.S_.Idx) :
    lossOf (F := Ideal) m c = R.refO (F := Ideal) (m ((SparseCore.T c).loc main_arg3)) (R.refP (F := Ideal) (m ((SparseCore.T c).loc main_arg1)))
      (R.refG (F := Ideal) (m ((SparseCore.T c).loc main_arg5)) (m ((SparseCore.T c).loc main_arg0))) j := by
  have hx (t : Fin 2) (r : Fin 2048) (l : Fin 128) : xs m c t (ix2 r l) = m ((SparseCore.T c).loc main_arg1) (ix2 (row t r) l) := rfl
  have hg (t : Fin 2) (r : Fin 2048) (l : Fin 128) : gs m c t (ix2 r l)
      = R.refG (F := Ideal) (m ((SparseCore.T c).loc main_arg5)) (m ((SparseCore.T c).loc main_arg0)) (ix2 (row t r) l) := by
    rw [R.refG_apply _ _ (hpre c)]
    show m (xLoc c) (ix2 (rowIx (m (iLoc c) (ix1 (row t r)))) l) = _
    refine congrArg (fun k => m (xLoc c) (ix2 k l)) (Fin.ext ?_)
    exact Nat.mod_eq_of_lt (hpre c _)
  unfold lossOf
  rw [step_eq _ _ _ _ 0 (hx 0) (hg 0), step_eq _ _ _ _ 1 (hx 1) (hg 1), last_apply, R.refO_apply, start_apply, zero_add]
  rw [show lossIn m c = m ((SparseCore.T c).loc main_arg3) j from congrArg (m ((SparseCore.T c).loc main_arg3)) (funext fun a => a.elim0)]
  rw [← sum_halves (term _ _)]
  rfl

end Cert.Proof.V

end
-- ==== Proof.lean ====
/-
  The certificate: the kernel runs and ends quiet, as printed and over the extended reals, wherever every index names a row of the
  table; so does the reference, everywhere; and over the extended reals the two end with the same loss.
-/
module

public import proofs.«01_k».proof.Defs
public import proofs.«01_k».proof.Proof.KEnd
public import proofs.«01_k».proof.Proof.KIEnd
public import proofs.«01_k».proof.Proof.Ref
public import proofs.«01_k».proof.Proof.Words
public import proofs.«01_k».proof.Proof.Loss
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_in_table
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_rows_in_table.Gen.facts

/-- The kernel as printed runs, its arguments unchanged, and ends quiet. -/
theorem kernel_frame : Cert.quiescent_Kernel := fun m g h =>
  (θ_run (Cert.Kernel.defs (F := Bits)) (Cert.Kernel.threads (F := Bits)) ⟨m, fun _ => 0, g⟩).mono
    (fun _ q => ⟨fun c => (q.1 c).2, q.2⟩) (K.run m g fun d => Words.rows_of_pre _ _ _ _ _ _ (h d))

/-- So it does over the extended reals. -/
theorem ideal_frame : Cert.quiescent_KernelIdeal := fun m g h =>
  (θ_run (Cert.KernelIdeal.defs (F := Ideal)) (Cert.KernelIdeal.threads (F := Ideal)) ⟨m, fun _ => 0, g⟩).mono
    (fun _ q => ⟨fun c => (q.1 c).2, q.2⟩) (KI.run m g fun d => Words.rows_of_pre _ _ _ _ _ _ (h d))

/-- The reference runs from any memory, and ends quiet: it has no semaphore. -/
theorem ref_frame : Cert.quiescent_ReferenceIdeal := fun m g _ =>
  (θ_run (Cert.ReferenceIdeal.defs (F := Ideal)) _ ⟨m, fun _ => 0, g⟩).mono
    (fun r q => ⟨fun c => (q c).2, sem_eq_zero_of_no_sems (by decide) r.2⟩) (Cert.ReferenceIdeal.Value.run m g)

/-- The two losses agree, from memories that agree on the arguments. -/
theorem value : Cert.algebraic_KernelIdeal_ReferenceIdeal := fun m g m' g' h same =>
  have hpre : KI.PreOK m := fun d => Words.rows_of_pre _ _ _ _ _ _ (h d)
  ⟨fun c _ => KI.lossOf m c,
    (θ_run (Cert.KernelIdeal.defs (F := Ideal)) (Cert.KernelIdeal.threads (F := Ideal)) ⟨m, fun _ => 0, g⟩).mono
      (fun _ q => q.1) (KI.run m g hpre),
    (θ_run (Cert.ReferenceIdeal.defs (F := Ideal)) _ ⟨m', fun _ => 0, g'⟩).mono
      (fun _ q c => ⟨(q c).1.trans (by
        obtain ⟨s0, s1, _, s3, _, s5⟩ := same c
        rw [R.res_eq, s0, s1, s3, s5]
        exact funext fun j => (V.loss_eq m hpre c j).symm), (q c).2⟩) (Cert.ReferenceIdeal.Value.run m' g')⟩

/-- Everything claimed. -/
theorem claim : Cert.Claim :=
  ⟨Cert.Kernel.Gen.facts, Cert.KernelIdeal.Gen.facts, Cert.ReferenceIdeal.Gen.facts, Cert.Pre_rows_in_table.Gen.facts,
    kernel_frame, ideal_frame, ref_frame, fun m g _ => ref_frame m g trivial, trivial, value⟩

end Cert.Proof

end
